-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x3072x4608 : Shape := ⟨3, ![12, 3072, 4608]⟩
abbrev S3 : Shape := ⟨1, ![3]⟩
abbrev S3x12x3072 : Shape := ⟨3, ![3, 12, 3072]⟩
abbrev S4608 : Shape := ⟨1, ![4608]⟩
abbrev S36864x4608 : Shape := ⟨2, ![36864, 4608]⟩
abbrev S1x4608 : Shape := ⟨2, ![1, 4608]⟩
abbrev S36864x36 : Shape := ⟨2, ![36864, 36]⟩
abbrev S12x3072 : Shape := ⟨2, ![12, 3072]⟩
abbrev S256x4608 : Shape := ⟨2, ![256, 4608]⟩
abbrev S256x36 : Shape := ⟨2, ![256, 36]⟩
abbrev S256x128 : Shape := ⟨2, ![256, 128]⟩
abbrev S3x24x12x128 : Shape := ⟨4, ![3, 24, 12, 128]⟩
abbrev S24x12x128 : Shape := ⟨3, ![24, 12, 128]⟩
abbrev S3x12x128 : Shape := ⟨3, ![3, 12, 128]⟩
abbrev S3x1x12x128 : Shape := ⟨4, ![3, 1, 12, 128]⟩
abbrev S32x128 : Shape := ⟨2, ![32, 128]⟩
abbrev S32 : Shape := ⟨1, ![32]⟩
abbrev S32x1 : Shape := ⟨2, ![32, 1]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1x1x128 : Shape := ⟨4, ![1, 1, 1, 128]⟩
abbrev S1x1x128 : Shape := ⟨3, ![1, 1, 128]⟩
abbrev S32x36 : Shape := ⟨2, ![32, 36]⟩
abbrev S1x12x128 : Shape := ⟨3, ![1, 12, 128]⟩
abbrev S12x128 : Shape := ⟨2, ![12, 128]⟩
abbrev S12x3072x36 : Shape := ⟨3, ![12, 3072, 36]⟩

abbrev nBuf : Space → Nat
  | .hbm => 19
  | .vmem => 26
  | .smem => 1
  | _ => 0

abbrev bufTy : (tb : Table) → Fin (tcTables nBuf tb) → BufTy
  | .hbm, ⟨0, _⟩ => ⟨S12x3072x4608, .bf16⟩
  | .hbm, ⟨1, _⟩ => ⟨S12x3072x4608, .bf16⟩
  | .hbm, ⟨2, _⟩ => ⟨S3, .f32⟩
  | .hbm, ⟨3, _⟩ => ⟨S3x12x3072, .f32⟩
  | .hbm, ⟨4, _⟩ => ⟨S3x12x3072, .f32⟩
  | .hbm, ⟨5, _⟩ => ⟨S4608, .f32⟩
  | .hbm, ⟨6, _⟩ => ⟨S4608, .f32⟩
  | .hbm, ⟨7, _⟩ => ⟨S36864x4608, .bf16⟩
  | .hbm, ⟨8, _⟩ => ⟨S36864x4608, .bf16⟩
  | .hbm, ⟨9, _⟩ => ⟨S1x4608, .f32⟩
  | .hbm, ⟨10, _⟩ => ⟨S1x4608, .f32⟩
  | .hbm, ⟨11, _⟩ => ⟨S36864x4608, .fp8e4m3⟩
  | .hbm, ⟨12, _⟩ => ⟨S36864x36, .f32⟩
  | .hbm, ⟨13, _⟩ => ⟨S12x3072, .f32⟩
  | .hbm, ⟨14, _⟩ => ⟨S12x3072, .f32⟩
  | .hbm, ⟨15, _⟩ => ⟨S36864x4608, .bf16⟩
  | .hbm, ⟨16, _⟩ => ⟨S12x3072x4608, .fp8e4m3⟩
  | .hbm, ⟨17, _⟩ => ⟨S12x3072x36, .f32⟩
  | .hbm, ⟨18, _⟩ => ⟨S12x3072x4608, .bf16⟩
  | .local _ .vmem, ⟨0, _⟩ => ⟨S256x4608, .bf16⟩
  | .local _ .vmem, ⟨1, _⟩ => ⟨S256x4608, .bf16⟩
  | .local _ .vmem, ⟨2, _⟩ => ⟨S256x4608, .bf16⟩
  | .local _ .vmem, ⟨3, _⟩ => ⟨S256x4608, .bf16⟩
  | .local _ .vmem, ⟨4, _⟩ => ⟨S3x12x3072, .f32⟩
  | .local _ .vmem, ⟨5, _⟩ => ⟨S3x12x3072, .f32⟩
  | .local _ .vmem, ⟨6, _⟩ => ⟨S1x4608, .f32⟩
  | .local _ .vmem, ⟨7, _⟩ => ⟨S1x4608, .f32⟩
  | .local _ .vmem, ⟨8, _⟩ => ⟨S256x4608, .fp8e4m3⟩
  | .local _ .vmem, ⟨9, _⟩ => ⟨S256x4608, .fp8e4m3⟩
  | .local _ .vmem, ⟨10, _⟩ => ⟨S256x36, .f32⟩
  | .local _ .vmem, ⟨11, _⟩ => ⟨S256x36, .f32⟩
  | .local _ .vmem, ⟨12, _⟩ => ⟨S12x3072, .f32⟩
  | .local _ .vmem, ⟨13, _⟩ => ⟨S12x3072, .f32⟩
  | .local _ .vmem, ⟨14, _⟩ => ⟨S256x4608, .bf16⟩
  | .local _ .vmem, ⟨15, _⟩ => ⟨S256x4608, .bf16⟩
  | .local _ .vmem, ⟨16, _⟩ => ⟨S256x4608, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S3x24x12x128, .f32⟩
  | .local _ .vmem, ⟨23, _⟩ => ⟨S3x24x12x128, .f32⟩
  | .local _ .vmem, ⟨24, _⟩ => ⟨S24x12x128, .f32⟩
  | .local _ .vmem, ⟨25, _⟩ => ⟨S24x12x128, .f32⟩
  | .local _ .smem, ⟨0, _⟩ => ⟨S3, .f32⟩
  | _, _ => ⟨S12x3072x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![144], ![false]⟩

@[reducible] def k0_t1_loop : Scf.Loop 32 :=
  let c0_i32_6 : BitVec 32 := 0#32
  let c8_i32 : BitVec 32 := 8#32
  let v20 : BitVec 32 := Scalar.addi c0_i32_6 c8_i32
  let c1_i32_7 : BitVec 32 := 1#32
  ⟨c0_i32_6, v20, c1_i32_7⟩
def k0_mult1 (k0_t1 : Fin k0_t1_loop.trips) : BitVec 32 :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  v251
def k0_off1 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v253 : Index := Scalar.indexCast v252
  let c0_87 : Index := 0#32
  ![v253.toNat, 0]
def k0_off2 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v267 : Index := Scalar.indexCast v252
  let c128_91 : Index := 128#32
  ![v267.toNat, 128]
def k0_off3 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v282 : Index := Scalar.indexCast v252
  let c256 : Index := 256#32
  ![v282.toNat, 256]
def k0_off4 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v297 : Index := Scalar.indexCast v252
  let c384 : Index := 384#32
  ![v297.toNat, 384]
def k0_off5 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v312 : Index := Scalar.indexCast v252
  let c512 : Index := 512#32
  ![v312.toNat, 512]
def k0_off6 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v327 : Index := Scalar.indexCast v252
  let c640 : Index := 640#32
  ![v327.toNat, 640]
def k0_off7 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v342 : Index := Scalar.indexCast v252
  let c768 : Index := 768#32
  ![v342.toNat, 768]
def k0_off8 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v357 : Index := Scalar.indexCast v252
  let c896 : Index := 896#32
  ![v357.toNat, 896]
def k0_off9 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v372 : Index := Scalar.indexCast v252
  let c1024 : Index := 1024#32
  ![v372.toNat, 1024]
def k0_off10 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v387 : Index := Scalar.indexCast v252
  let c1152 : Index := 1152#32
  ![v387.toNat, 1152]
def k0_off11 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v402 : Index := Scalar.indexCast v252
  let c1280 : Index := 1280#32
  ![v402.toNat, 1280]
def k0_off12 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v417 : Index := Scalar.indexCast v252
  let c1408 : Index := 1408#32
  ![v417.toNat, 1408]
def k0_off13 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v432 : Index := Scalar.indexCast v252
  let c1536 : Index := 1536#32
  ![v432.toNat, 1536]
def k0_off14 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v447 : Index := Scalar.indexCast v252
  let c1664 : Index := 1664#32
  ![v447.toNat, 1664]
def k0_off15 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v462 : Index := Scalar.indexCast v252
  let c1792 : Index := 1792#32
  ![v462.toNat, 1792]
def k0_off16 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v477 : Index := Scalar.indexCast v252
  let c1920 : Index := 1920#32
  ![v477.toNat, 1920]
def k0_off17 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v492 : Index := Scalar.indexCast v252
  let c2048 : Index := 2048#32
  ![v492.toNat, 2048]
def k0_off18 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v507 : Index := Scalar.indexCast v252
  let c2176 : Index := 2176#32
  ![v507.toNat, 2176]
def k0_off19 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v522 : Index := Scalar.indexCast v252
  let c2304 : Index := 2304#32
  ![v522.toNat, 2304]
def k0_off20 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v537 : Index := Scalar.indexCast v252
  let c2432 : Index := 2432#32
  ![v537.toNat, 2432]
def k0_off21 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v552 : Index := Scalar.indexCast v252
  let c2560 : Index := 2560#32
  ![v552.toNat, 2560]
def k0_off22 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v567 : Index := Scalar.indexCast v252
  let c2688 : Index := 2688#32
  ![v567.toNat, 2688]
def k0_off23 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v582 : Index := Scalar.indexCast v252
  let c2816 : Index := 2816#32
  ![v582.toNat, 2816]
def k0_off24 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v597 : Index := Scalar.indexCast v252
  let c2944 : Index := 2944#32
  ![v597.toNat, 2944]
def k0_off25 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v612 : Index := Scalar.indexCast v252
  let c3072 : Index := 3072#32
  ![v612.toNat, 3072]
def k0_off26 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v627 : Index := Scalar.indexCast v252
  let c3200 : Index := 3200#32
  ![v627.toNat, 3200]
def k0_off27 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v642 : Index := Scalar.indexCast v252
  let c3328 : Index := 3328#32
  ![v642.toNat, 3328]
def k0_off28 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v657 : Index := Scalar.indexCast v252
  let c3456 : Index := 3456#32
  ![v657.toNat, 3456]
def k0_off29 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v672 : Index := Scalar.indexCast v252
  let c3584 : Index := 3584#32
  ![v672.toNat, 3584]
def k0_off30 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v687 : Index := Scalar.indexCast v252
  let c3712 : Index := 3712#32
  ![v687.toNat, 3712]
def k0_off31 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v702 : Index := Scalar.indexCast v252
  let c3840 : Index := 3840#32
  ![v702.toNat, 3840]
def k0_off32 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v717 : Index := Scalar.indexCast v252
  let c3968 : Index := 3968#32
  ![v717.toNat, 3968]
def k0_off33 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v732 : Index := Scalar.indexCast v252
  let c4096 : Index := 4096#32
  ![v732.toNat, 4096]
def k0_off34 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v747 : Index := Scalar.indexCast v252
  let c4224 : Index := 4224#32
  ![v747.toNat, 4224]
def k0_off35 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v762 : Index := Scalar.indexCast v252
  let c4352 : Index := 4352#32
  ![v762.toNat, 4352]
def k0_off36 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v777 : Index := Scalar.indexCast v252
  let c4480 : Index := 4480#32
  ![v777.toNat, 4480]
def k0_off37 (k0_t1 : Fin k0_t1_loop.trips) : Fin 2 → Nat :=
  let c0_i32_86 : BitVec 32 := 0#32
  let c0_i32_6 : BitVec 32 := 0#32
  let c1_i32_7 : BitVec 32 := 1#32
  let arg23 : BitVec 32 := Scf.iv c0_i32_6 c1_i32_7 k0_t1
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v798 : Index := Scalar.indexCast v252
  let c0_198 : Index := 0#32
  ![v798.toNat, 0]
def k0_off38 (i : grid0.Coords) (c0_i32_19 : BitVec 32) : Fin 4 → Nat :=
  let c0_21 : Index := 0#32
  let arg0 : BitVec 32 := BitVec.ofNat 32 (i 0).val
  let c12_i32_13 : BitVec 32 := 12#32
  let c0_i32_14 : BitVec 32 := 0#32
  let v28 : BitVec 1 := Scalar.cmpi .eq c12_i32_13 c0_i32_14
  let c1_i32_15 : BitVec 32 := 1#32
  let v29 : BitVec 32 := Scalar.select v28 c1_i32_15 c12_i32_13
  let v30 : BitVec 32 := Scalar.remsi arg0 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let c2_i32 : BitVec 32 := 2#32
  let v38 : BitVec 32 := Scalar.muli v37 c2_i32
  let v39 : BitVec 32 := Scalar.addi v38 c0_i32_19
  let v41 : Index := Scalar.indexCast v39
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c12_i32 : BitVec 32 := 12#32
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let v0 : BitVec 32 := Scalar.divsi arg0 c12_i32
  let c1_i32 : BitVec 32 := 1#32
  let v15 : BitVec 32 := Scalar.subi v0 c1_i32
  let v16 : BitVec 32 := Scalar.select v14 v15 v0
  let v42 : Index := Scalar.indexCast v16
  let c0_22 : Index := 0#32
  ![0, v41.toNat, v42.toNat, 0]
def k0_off39 (i : grid0.Coords) (c0_i32_19 : BitVec 32) : Fin 4 → Nat :=
  let c1_25 : Index := 1#32
  let arg0 : BitVec 32 := BitVec.ofNat 32 (i 0).val
  let c12_i32_13 : BitVec 32 := 12#32
  let c0_i32_14 : BitVec 32 := 0#32
  let v28 : BitVec 1 := Scalar.cmpi .eq c12_i32_13 c0_i32_14
  let c1_i32_15 : BitVec 32 := 1#32
  let v29 : BitVec 32 := Scalar.select v28 c1_i32_15 c12_i32_13
  let v30 : BitVec 32 := Scalar.remsi arg0 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let c2_i32 : BitVec 32 := 2#32
  let v38 : BitVec 32 := Scalar.muli v37 c2_i32
  let v39 : BitVec 32 := Scalar.addi v38 c0_i32_19
  let v50 : Index := Scalar.indexCast v39
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c12_i32 : BitVec 32 := 12#32
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let v0 : BitVec 32 := Scalar.divsi arg0 c12_i32
  let c1_i32 : BitVec 32 := 1#32
  let v15 : BitVec 32 := Scalar.subi v0 c1_i32
  let v16 : BitVec 32 := Scalar.select v14 v15 v0
  let v51 : Index := Scalar.indexCast v16
  let c0_26 : Index := 0#32
  ![1, v50.toNat, v51.toNat, 0]
def k0_off40 (i : grid0.Coords) (c0_i32_19 : BitVec 32) : Fin 4 → Nat :=
  let c2_29 : Index := 2#32
  let arg0 : BitVec 32 := BitVec.ofNat 32 (i 0).val
  let c12_i32_13 : BitVec 32 := 12#32
  let c0_i32_14 : BitVec 32 := 0#32
  let v28 : BitVec 1 := Scalar.cmpi .eq c12_i32_13 c0_i32_14
  let c1_i32_15 : BitVec 32 := 1#32
  let v29 : BitVec 32 := Scalar.select v28 c1_i32_15 c12_i32_13
  let v30 : BitVec 32 := Scalar.remsi arg0 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let c2_i32 : BitVec 32 := 2#32
  let v38 : BitVec 32 := Scalar.muli v37 c2_i32
  let v39 : BitVec 32 := Scalar.addi v38 c0_i32_19
  let v59 : Index := Scalar.indexCast v39
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c12_i32 : BitVec 32 := 12#32
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let v0 : BitVec 32 := Scalar.divsi arg0 c12_i32
  let c1_i32 : BitVec 32 := 1#32
  let v15 : BitVec 32 := Scalar.subi v0 c1_i32
  let v16 : BitVec 32 := Scalar.select v14 v15 v0
  let v60 : Index := Scalar.indexCast v16
  let c0_30 : Index := 0#32
  ![2, v59.toNat, v60.toNat, 0]
def k0_off41 (i : grid0.Coords) (c0_i32_19 : BitVec 32) : Fin 3 → Nat :=
  let arg0 : BitVec 32 := BitVec.ofNat 32 (i 0).val
  let c12_i32_13 : BitVec 32 := 12#32
  let c0_i32_14 : BitVec 32 := 0#32
  let v28 : BitVec 1 := Scalar.cmpi .eq c12_i32_13 c0_i32_14
  let c1_i32_15 : BitVec 32 := 1#32
  let v29 : BitVec 32 := Scalar.select v28 c1_i32_15 c12_i32_13
  let v30 : BitVec 32 := Scalar.remsi arg0 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let c2_i32 : BitVec 32 := 2#32
  let v38 : BitVec 32 := Scalar.muli v37 c2_i32
  let v39 : BitVec 32 := Scalar.addi v38 c0_i32_19
  let v111 : Index := Scalar.indexCast v39
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c12_i32 : BitVec 32 := 12#32
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let v0 : BitVec 32 := Scalar.divsi arg0 c12_i32
  let c1_i32 : BitVec 32 := 1#32
  let v15 : BitVec 32 := Scalar.subi v0 c1_i32
  let v16 : BitVec 32 := Scalar.select v14 v15 v0
  let v112 : Index := Scalar.indexCast v16
  let c0_37 : Index := 0#32
  ![v111.toNat, v112.toNat, 0]
@[reducible] def k0_t2_loop : Scf.Loop 32 :=
  let c0_i32_80 : BitVec 32 := 0#32
  let c8_i32_81 : BitVec 32 := 8#32
  let v245 : BitVec 32 := Scalar.addi c0_i32_80 c8_i32_81
  let c1_i32_82 : BitVec 32 := 1#32
  ⟨c0_i32_80, v245, c1_i32_82⟩
def k0_mult2 (k0_t2 : Fin k0_t2_loop.trips) : BitVec 32 :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  v251
def k0_off42 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v253 : Index := Scalar.indexCast v252
  let c0_87 : Index := 0#32
  ![v253.toNat, 0]
def k0_off43 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v257 : Index := Scalar.indexCast v252
  let c0_89 : Index := 0#32
  ![v257.toNat, 0]
def k0_off44 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v272 : Index := Scalar.indexCast v252
  let c0_95 : Index := 0#32
  ![v272.toNat, 0]
def k0_off45 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v374 : Index := Scalar.indexCast v252
  let c128_123 : Index := 128#32
  ![v374.toNat, 128]
def k0_off46 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v389 : Index := Scalar.indexCast v252
  let c1_129 : Index := 1#32
  ![v389.toNat, 1]
def k0_off47 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v491 : Index := Scalar.indexCast v252
  let c256 : Index := 256#32
  ![v491.toNat, 256]
def k0_off48 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v506 : Index := Scalar.indexCast v252
  let c2_170 : Index := 2#32
  ![v506.toNat, 2]
def k0_off49 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v608 : Index := Scalar.indexCast v252
  let c384 : Index := 384#32
  ![v608.toNat, 384]
def k0_off50 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v623 : Index := Scalar.indexCast v252
  let c3 : Index := 3#32
  ![v623.toNat, 3]
def k0_off51 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v725 : Index := Scalar.indexCast v252
  let c512 : Index := 512#32
  ![v725.toNat, 512]
def k0_off52 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v740 : Index := Scalar.indexCast v252
  let c4 : Index := 4#32
  ![v740.toNat, 4]
def k0_off53 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v842 : Index := Scalar.indexCast v252
  let c640 : Index := 640#32
  ![v842.toNat, 640]
def k0_off54 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v857 : Index := Scalar.indexCast v252
  let c5 : Index := 5#32
  ![v857.toNat, 5]
def k0_off55 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v959 : Index := Scalar.indexCast v252
  let c768 : Index := 768#32
  ![v959.toNat, 768]
def k0_off56 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v974 : Index := Scalar.indexCast v252
  let c6 : Index := 6#32
  ![v974.toNat, 6]
def k0_off57 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1076 : Index := Scalar.indexCast v252
  let c896 : Index := 896#32
  ![v1076.toNat, 896]
def k0_off58 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1091 : Index := Scalar.indexCast v252
  let c7 : Index := 7#32
  ![v1091.toNat, 7]
def k0_off59 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1193 : Index := Scalar.indexCast v252
  let c1024 : Index := 1024#32
  ![v1193.toNat, 1024]
def k0_off60 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1208 : Index := Scalar.indexCast v252
  let c8 : Index := 8#32
  ![v1208.toNat, 8]
def k0_off61 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1310 : Index := Scalar.indexCast v252
  let c1152 : Index := 1152#32
  ![v1310.toNat, 1152]
def k0_off62 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1325 : Index := Scalar.indexCast v252
  let c9 : Index := 9#32
  ![v1325.toNat, 9]
def k0_off63 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1427 : Index := Scalar.indexCast v252
  let c1280 : Index := 1280#32
  ![v1427.toNat, 1280]
def k0_off64 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1442 : Index := Scalar.indexCast v252
  let c10 : Index := 10#32
  ![v1442.toNat, 10]
def k0_off65 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1544 : Index := Scalar.indexCast v252
  let c1408 : Index := 1408#32
  ![v1544.toNat, 1408]
def k0_off66 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1559 : Index := Scalar.indexCast v252
  let c11 : Index := 11#32
  ![v1559.toNat, 11]
def k0_off67 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1661 : Index := Scalar.indexCast v252
  let c1536 : Index := 1536#32
  ![v1661.toNat, 1536]
def k0_off68 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1676 : Index := Scalar.indexCast v252
  let c12 : Index := 12#32
  ![v1676.toNat, 12]
def k0_off69 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1778 : Index := Scalar.indexCast v252
  let c1664 : Index := 1664#32
  ![v1778.toNat, 1664]
def k0_off70 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1793 : Index := Scalar.indexCast v252
  let c13 : Index := 13#32
  ![v1793.toNat, 13]
def k0_off71 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1895 : Index := Scalar.indexCast v252
  let c1792 : Index := 1792#32
  ![v1895.toNat, 1792]
def k0_off72 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v1910 : Index := Scalar.indexCast v252
  let c14 : Index := 14#32
  ![v1910.toNat, 14]
def k0_off73 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2012 : Index := Scalar.indexCast v252
  let c1920 : Index := 1920#32
  ![v2012.toNat, 1920]
def k0_off74 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2027 : Index := Scalar.indexCast v252
  let c15 : Index := 15#32
  ![v2027.toNat, 15]
def k0_off75 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2129 : Index := Scalar.indexCast v252
  let c2048 : Index := 2048#32
  ![v2129.toNat, 2048]
def k0_off76 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2144 : Index := Scalar.indexCast v252
  let c16 : Index := 16#32
  ![v2144.toNat, 16]
def k0_off77 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2246 : Index := Scalar.indexCast v252
  let c2176 : Index := 2176#32
  ![v2246.toNat, 2176]
def k0_off78 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2261 : Index := Scalar.indexCast v252
  let c17 : Index := 17#32
  ![v2261.toNat, 17]
def k0_off79 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2363 : Index := Scalar.indexCast v252
  let c2304 : Index := 2304#32
  ![v2363.toNat, 2304]
def k0_off80 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2378 : Index := Scalar.indexCast v252
  let c18 : Index := 18#32
  ![v2378.toNat, 18]
def k0_off81 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2480 : Index := Scalar.indexCast v252
  let c2432 : Index := 2432#32
  ![v2480.toNat, 2432]
def k0_off82 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2495 : Index := Scalar.indexCast v252
  let c19 : Index := 19#32
  ![v2495.toNat, 19]
def k0_off83 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2597 : Index := Scalar.indexCast v252
  let c2560 : Index := 2560#32
  ![v2597.toNat, 2560]
def k0_off84 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2612 : Index := Scalar.indexCast v252
  let c20 : Index := 20#32
  ![v2612.toNat, 20]
def k0_off85 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2714 : Index := Scalar.indexCast v252
  let c2688 : Index := 2688#32
  ![v2714.toNat, 2688]
def k0_off86 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2729 : Index := Scalar.indexCast v252
  let c21 : Index := 21#32
  ![v2729.toNat, 21]
def k0_off87 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2831 : Index := Scalar.indexCast v252
  let c2816 : Index := 2816#32
  ![v2831.toNat, 2816]
def k0_off88 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2846 : Index := Scalar.indexCast v252
  let c22 : Index := 22#32
  ![v2846.toNat, 22]
def k0_off89 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2948 : Index := Scalar.indexCast v252
  let c2944 : Index := 2944#32
  ![v2948.toNat, 2944]
def k0_off90 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v2963 : Index := Scalar.indexCast v252
  let c23 : Index := 23#32
  ![v2963.toNat, 23]
def k0_off91 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3065 : Index := Scalar.indexCast v252
  let c3072 : Index := 3072#32
  ![v3065.toNat, 3072]
def k0_off92 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3080 : Index := Scalar.indexCast v252
  let c24 : Index := 24#32
  ![v3080.toNat, 24]
def k0_off93 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3182 : Index := Scalar.indexCast v252
  let c3200 : Index := 3200#32
  ![v3182.toNat, 3200]
def k0_off94 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3197 : Index := Scalar.indexCast v252
  let c25 : Index := 25#32
  ![v3197.toNat, 25]
def k0_off95 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3299 : Index := Scalar.indexCast v252
  let c3328 : Index := 3328#32
  ![v3299.toNat, 3328]
def k0_off96 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3314 : Index := Scalar.indexCast v252
  let c26 : Index := 26#32
  ![v3314.toNat, 26]
def k0_off97 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3416 : Index := Scalar.indexCast v252
  let c3456 : Index := 3456#32
  ![v3416.toNat, 3456]
def k0_off98 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3431 : Index := Scalar.indexCast v252
  let c27 : Index := 27#32
  ![v3431.toNat, 27]
def k0_off99 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3533 : Index := Scalar.indexCast v252
  let c3584 : Index := 3584#32
  ![v3533.toNat, 3584]
def k0_off100 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3548 : Index := Scalar.indexCast v252
  let c28 : Index := 28#32
  ![v3548.toNat, 28]
def k0_off101 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3650 : Index := Scalar.indexCast v252
  let c3712 : Index := 3712#32
  ![v3650.toNat, 3712]
def k0_off102 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3665 : Index := Scalar.indexCast v252
  let c29 : Index := 29#32
  ![v3665.toNat, 29]
def k0_off103 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3767 : Index := Scalar.indexCast v252
  let c3840 : Index := 3840#32
  ![v3767.toNat, 3840]
def k0_off104 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3782 : Index := Scalar.indexCast v252
  let c30 : Index := 30#32
  ![v3782.toNat, 30]
def k0_off105 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3884 : Index := Scalar.indexCast v252
  let c3968 : Index := 3968#32
  ![v3884.toNat, 3968]
def k0_off106 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v3899 : Index := Scalar.indexCast v252
  let c31 : Index := 31#32
  ![v3899.toNat, 31]
def k0_off107 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4001 : Index := Scalar.indexCast v252
  let c4096 : Index := 4096#32
  ![v4001.toNat, 4096]
def k0_off108 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4016 : Index := Scalar.indexCast v252
  let c32 : Index := 32#32
  ![v4016.toNat, 32]
def k0_off109 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4118 : Index := Scalar.indexCast v252
  let c4224 : Index := 4224#32
  ![v4118.toNat, 4224]
def k0_off110 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4133 : Index := Scalar.indexCast v252
  let c33 : Index := 33#32
  ![v4133.toNat, 33]
def k0_off111 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4235 : Index := Scalar.indexCast v252
  let c4352 : Index := 4352#32
  ![v4235.toNat, 4352]
def k0_off112 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4250 : Index := Scalar.indexCast v252
  let c34 : Index := 34#32
  ![v4250.toNat, 34]
def k0_off113 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4352 : Index := Scalar.indexCast v252
  let c4480 : Index := 4480#32
  ![v4352.toNat, 4480]
def k0_off114 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4367 : Index := Scalar.indexCast v252
  let c35 : Index := 35#32
  ![v4367.toNat, 35]
def k0_off115 (k0_t2 : Fin k0_t2_loop.trips) : Fin 2 → Nat :=
  let c0_i32_86 : BitVec 32 := 0#32
  let c0_i32_80 : BitVec 32 := 0#32
  let c1_i32_82 : BitVec 32 := 1#32
  let arg23 : BitVec 32 := Scf.iv c0_i32_80 c1_i32_82 k0_t2
  let c1_i32_85 : BitVec 32 := 1#32
  let v249 : BitVec 32 := Scalar.muli arg23 c1_i32_85
  let v250 : BitVec 32 := Scalar.addi c0_i32_86 v249
  let c32_i32 : BitVec 32 := 32#32
  let v251 : BitVec 32 := Scalar.muli v250 c32_i32
  let v252 : BitVec 32 := v251
  let v4558 : Index := Scalar.indexCast v252
  let c0_1558 : Index := 0#32
  ![v4558.toNat, 0]
def k0_cond2 (i : grid0.Coords) : BitVec 1 :=
  let arg0 : BitVec 32 := BitVec.ofNat 32 (i 0).val
  let c143_i32 : BitVec 32 := 143#32
  let v246 : BitVec 1 := Scalar.cmpi .eq arg0 c143_i32
  let v247 : BitVec 32 := Scalar.extui v246
  let c0_i32_84 : BitVec 32 := 0#32
  let v248 : BitVec 1 := Scalar.cmpi .ne v247 c0_i32_84
  v248

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x12x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x12x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4608 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x36 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4608 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S12x3072x4608 : Shape := ⟨3, ![12, 3072, 4608]⟩
abbrev S3 : Shape := ⟨1, ![3]⟩
abbrev S3x12x3072 : Shape := ⟨3, ![3, 12, 3072]⟩
abbrev S4608 : Shape := ⟨1, ![4608]⟩
abbrev S_ : Shape := ⟨0, ![]⟩
abbrev S12x3072 : Shape := ⟨2, ![12, 3072]⟩
abbrev S12x3072x1 : Shape := ⟨3, ![12, 3072, 1]⟩
abbrev S1 : Shape := ⟨1, ![1]⟩
abbrev S1x12x3072 : Shape := ⟨3, ![1, 12, 3072]⟩
abbrev S1x1x4608 : Shape := ⟨3, ![1, 1, 4608]⟩
abbrev S12x3072x36x128 : Shape := ⟨4, ![12, 3072, 36, 128]⟩
abbrev S12x3072x36 : Shape := ⟨3, ![12, 3072, 36]⟩
abbrev S12x3072x36x1 : Shape := ⟨4, ![12, 3072, 36, 1]⟩

abbrev nBuf : Space → Nat
  | .hbm => 150
  | .vmem => 0
  | .smem => 0
  | _ => 0

abbrev hbmTy0_0 (i : Nat) : BufTy := match i % 128 with
  | 0 => ⟨S12x3072x4608, .bf16⟩
  | 1 => ⟨S12x3072x4608, .bf16⟩
  | 2 => ⟨S3, .f32⟩
  | 3 => ⟨S3x12x3072, .f32⟩
  | 4 => ⟨S3x12x3072, .f32⟩
  | 5 => ⟨S4608, .f32⟩
  | 6 => ⟨S4608, .f32⟩
  | 7 => ⟨S12x3072x4608, .f32⟩
  | 8 => ⟨S12x3072x4608, .f32⟩
  | 9 => ⟨S12x3072x4608, .f32⟩
  | 10 => ⟨S12x3072x4608, .bf16⟩
  | 11 => ⟨S12x3072x4608, .f32⟩
  | 12 => ⟨S_, .f32⟩
  | 13 => ⟨S12x3072, .f32⟩
  | 14 => ⟨S_, .f32⟩
  | 15 => ⟨S12x3072, .f32⟩
  | 16 => ⟨S12x3072, .f32⟩
  | 17 => ⟨S12x3072x1, .f32⟩
  | 18 => ⟨S12x3072x4608, .f32⟩
  | 19 => ⟨S12x3072x4608, .f32⟩
  | 20 => ⟨S12x3072x4608, .f32⟩
  | 21 => ⟨S_, .f32⟩
  | 22 => ⟨S12x3072, .f32⟩
  | 23 => ⟨S1, .f32⟩
  | 24 => ⟨S_, .f32⟩
  | 25 => ⟨S1x12x3072, .f32⟩
  | 26 => ⟨S12x3072, .f32⟩
  | 27 => ⟨S1x12x3072, .f32⟩
  | 28 => ⟨S12x3072, .f32⟩
  | 29 => ⟨S1, .f32⟩
  | 30 => ⟨S_, .f32⟩
  | 31 => ⟨S1x12x3072, .f32⟩
  | 32 => ⟨S12x3072, .f32⟩
  | 33 => ⟨S1x12x3072, .f32⟩
  | 34 => ⟨S12x3072, .f32⟩
  | 35 => ⟨S1, .f32⟩
  | 36 => ⟨S_, .f32⟩
  | 37 => ⟨S1x12x3072, .f32⟩
  | 38 => ⟨S12x3072, .f32⟩
  | 39 => ⟨S1x12x3072, .f32⟩
  | 40 => ⟨S12x3072, .f32⟩
  | 41 => ⟨S_, .f32⟩
  | 42 => ⟨S12x3072, .f32⟩
  | 43 => ⟨S_, .f32⟩
  | 44 => ⟨S12x3072, .f32⟩
  | 45 => ⟨S12x3072, .f32⟩
  | 46 => ⟨S12x3072, .f32⟩
  | 47 => ⟨S12x3072, .f32⟩
  | 48 => ⟨S12x3072, .f32⟩
  | 49 => ⟨S_, .f32⟩
  | 50 => ⟨S_, .f32⟩
  | 51 => ⟨S12x3072, .f32⟩
  | 52 => ⟨S12x3072, .f32⟩
  | 53 => ⟨S12x3072, .f32⟩
  | 54 => ⟨S_, .f32⟩
  | 55 => ⟨S12x3072, .f32⟩
  | 56 => ⟨S_, .f32⟩
  | 57 => ⟨S12x3072, .f32⟩
  | 58 => ⟨S12x3072, .f32⟩
  | 59 => ⟨S12x3072, .f32⟩
  | 60 => ⟨S12x3072, .f32⟩
  | 61 => ⟨S12x3072, .f32⟩
  | 62 => ⟨S_, .f32⟩
  | 63 => ⟨S_, .f32⟩
  | 64 => ⟨S12x3072, .f32⟩
  | 65 => ⟨S12x3072, .f32⟩
  | 66 => ⟨S12x3072, .f32⟩
  | 67 => ⟨S_, .f32⟩
  | 68 => ⟨S_, .f32⟩
  | 69 => ⟨S12x3072, .f32⟩
  | 70 => ⟨S_, .f32⟩
  | 71 => ⟨S_, .f32⟩
  | 72 => ⟨S12x3072, .f32⟩
  | 73 => ⟨S12x3072, .f32⟩
  | 74 => ⟨S12x3072, .f32⟩
  | 75 => ⟨S12x3072, .f32⟩
  | 76 => ⟨S12x3072, .f32⟩
  | 77 => ⟨S_, .f32⟩
  | 78 => ⟨S_, .f32⟩
  | 79 => ⟨S_, .f32⟩
  | 80 => ⟨S12x3072, .f32⟩
  | 81 => ⟨S12x3072, .f32⟩
  | 82 => ⟨S12x3072, .f32⟩
  | 83 => ⟨S12x3072, .f32⟩
  | 84 => ⟨S12x3072, .f32⟩
  | 85 => ⟨S_, .f32⟩
  | 86 => ⟨S12x3072, .f32⟩
  | 87 => ⟨S12x3072, .f32⟩
  | 88 => ⟨S12x3072, .f32⟩
  | 89 => ⟨S12x3072x1, .f32⟩
  | 90 => ⟨S12x3072x4608, .f32⟩
  | 91 => ⟨S12x3072x4608, .f32⟩
  | 92 => ⟨S12x3072x1, .f32⟩
  | 93 => ⟨S12x3072x4608, .f32⟩
  | 94 => ⟨S12x3072x4608, .f32⟩
  | 95 => ⟨S1x1x4608, .f32⟩
  | 96 => ⟨S12x3072x4608, .f32⟩
  | 97 => ⟨S12x3072x4608, .f32⟩
  | 98 => ⟨S1x1x4608, .f32⟩
  | 99 => ⟨S12x3072x4608, .f32⟩
  | 100 => ⟨S12x3072x4608, .f32⟩
  | 101 => ⟨S12x3072x36x128, .f32⟩
  | 102 => ⟨S12x3072x36x128, .f32⟩
  | 103 => ⟨S_, .f32⟩
  | 104 => ⟨S12x3072x36, .f32⟩
  | 105 => ⟨S_, .f32⟩
  | 106 => ⟨S12x3072x36, .f32⟩
  | 107 => ⟨S12x3072x36, .f32⟩
  | 108 => ⟨S12x3072x36, .f32⟩
  | 109 => ⟨S_, .f32⟩
  | 110 => ⟨S_, .f32⟩
  | 111 => ⟨S12x3072x36, .f32⟩
  | 112 => ⟨S12x3072x36, .f32⟩
  | 113 => ⟨S12x3072x36, .f32⟩
  | 114 => ⟨S_, .f32⟩
  | 115 => ⟨S12x3072x36, .f32⟩
  | 116 => ⟨S12x3072x36, .f32⟩
  | 117 => ⟨S_, .f32⟩
  | 118 => ⟨S_, .f32⟩
  | 119 => ⟨S_, .f32⟩
  | 120 => ⟨S12x3072x36, .f32⟩
  | 121 => ⟨S12x3072x36, .f32⟩
  | 122 => ⟨S_, .f32⟩
  | 123 => ⟨S12x3072x36, .f32⟩
  | 124 => ⟨S12x3072x36, .f32⟩
  | 125 => ⟨S_, .f32⟩
  | 126 => ⟨S12x3072x36, .f32⟩
  | 127 => ⟨S12x3072x36, .i1⟩
  | _ => ⟨S12x3072x4608, .bf16⟩

abbrev hbmTy0_1 (i : Nat) : BufTy := match i % 128 with
  | 0 => ⟨S_, .f32⟩
  | 1 => ⟨S_, .f32⟩
  | 2 => ⟨S12x3072x36, .f32⟩
  | 3 => ⟨S12x3072x36, .f32⟩
  | 4 => ⟨S_, .f32⟩
  | 5 => ⟨S12x3072x36, .f32⟩
  | 6 => ⟨S12x3072x36, .f32⟩
  | 7 => ⟨S12x3072x36, .f32⟩
  | 8 => ⟨S12x3072x36, .f32⟩
  | 9 => ⟨S12x3072x36x1, .f32⟩
  | 10 => ⟨S12x3072x36x128, .f32⟩
  | 11 => ⟨S12x3072x36x128, .f32⟩
  | 12 => ⟨S_, .f32⟩
  | 13 => ⟨S_, .f32⟩
  | 14 => ⟨S_, .f32⟩
  | 15 => ⟨S12x3072x36x128, .f32⟩
  | 16 => ⟨S12x3072x36x128, .f32⟩
  | 17 => ⟨S_, .f32⟩
  | 18 => ⟨S12x3072x36x128, .f32⟩
  | 19 => ⟨S12x3072x36x128, .f32⟩
  | 20 => ⟨S12x3072x4608, .f32⟩
  | 21 => ⟨S12x3072x4608, .fp8e4m3⟩
  | _ => ⟨S12x3072x4608, .bf16⟩

abbrev hbmTy (i : Nat) : BufTy := match i / 128 with
  | 0 => hbmTy0_0 i
  | 1 => hbmTy0_1 i
  | _ => ⟨S12x3072x4608, .bf16⟩

abbrev bufTy : (tb : Table) → Fin (tcTables nBuf tb) → BufTy
  | .hbm, ⟨i, _⟩ => hbmTy i
  | _, _ => ⟨S12x3072x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_2 : Ref sig .tc := ⟨.hbm, 67, rfl⟩
abbrev main_v57 : Ref sig .tc := ⟨.hbm, 68, rfl⟩
abbrev main_v58 : Ref sig .tc := ⟨.hbm, 69, rfl⟩
abbrev main_cst_3 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_6 : Ref sig .tc := ⟨.hbm, 103, rfl⟩
abbrev main_v89 : Ref sig .tc := ⟨.hbm, 104, rfl⟩
abbrev main_cst_7 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_9 : Ref sig .tc := ⟨.hbm, 114, rfl⟩
abbrev main_v97 : Ref sig .tc := ⟨.hbm, 115, rfl⟩
abbrev main_v98 : Ref sig .tc := ⟨.hbm, 116, rfl⟩
abbrev main_cst_10 : Ref sig .tc := ⟨.hbm, 117, rfl⟩
abbrev main_cst_11 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_v99 : Ref sig .tc := ⟨.hbm, 124, rfl⟩
abbrev main_cst_12 : Ref sig .tc := ⟨.hbm, 125, rfl⟩
abbrev main_v100 : Ref sig .tc := ⟨.hbm, 126, rfl⟩
abbrev main_v101 : Ref sig .tc := ⟨.hbm, 127, rfl⟩
abbrev main_cst_13 : Ref sig .tc := ⟨.hbm, 128, rfl⟩
abbrev main_call1_v0 : Ref sig .tc := ⟨.hbm, 129, rfl⟩
abbrev main_call1_v1 : Ref sig .tc := ⟨.hbm, 130, rfl⟩
abbrev main_v102 : Ref sig .tc := ⟨.hbm, 131, rfl⟩
abbrev main_cst_14 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_15 : Ref sig .tc := ⟨.hbm, 140, rfl⟩
abbrev main_cst_16 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Proof.Body.lean ====
/-
  The kernel's body, written as folds of one block's program: the 36 column blocks of a row group, the 24 chunks of
  the staged statistics, the two tiles of 128 tokens. Instance files prove that the printed bodies are this program.
-/
module

public import Idealize.ShloMosaic.Lib.Pipeline.FrameBody
public import Idealize.ShloMosaic.Lib.Scf

@[expose] public section

noncomputable section

namespace K01

open Idealize.ShloMosaic Idealize.SL Idealize.SL.Sem

abbrev S3 : Shape := ⟨1, ![3]⟩
abbrev S1x4608 : Shape := ⟨2, ![1, 4608]⟩
abbrev S3x12x3072 : Shape := ⟨3, ![3, 12, 3072]⟩
abbrev S12x3072 : Shape := ⟨2, ![12, 3072]⟩
abbrev S256x4608 : Shape := ⟨2, ![256, 4608]⟩
abbrev S256x36 : Shape := ⟨2, ![256, 36]⟩
abbrev S256x128 : Shape := ⟨2, ![256, 128]⟩
abbrev S3x24x12x128 : Shape := ⟨4, ![3, 24, 12, 128]⟩
abbrev S24x12x128 : Shape := ⟨3, ![24, 12, 128]⟩
abbrev S3x12x128 : Shape := ⟨3, ![3, 12, 128]⟩
abbrev S3x1x12x128 : Shape := ⟨4, ![3, 1, 12, 128]⟩
abbrev S32x128 : Shape := ⟨2, ![32, 128]⟩
abbrev S32 : Shape := ⟨1, ![32]⟩
abbrev S32x1 : Shape := ⟨2, ![32, 1]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1x1x128 : Shape := ⟨4, ![1, 1, 1, 128]⟩
abbrev S1x1x128 : Shape := ⟨3, ![1, 1, 128]⟩
abbrev S32x36 : Shape := ⟨2, ![32, 36]⟩
abbrev S1x12x128 : Shape := ⟨3, ![1, 12, 128]⟩
abbrev S12x128 : Shape := ⟨2, ![12, 128]⟩

/-- The buffers the body works on, in the order of its arguments. -/
structure Args (sig : RefSig) where
  a1 : Memref sig .tc .smem S3 .f32
  a2 : Memref sig .tc .vmem S256x4608 .bf16
  a3 : Memref sig .tc .vmem S256x4608 .bf16
  a4 : Memref sig .tc .vmem S3x12x3072 .f32
  a5 : Memref sig .tc .vmem S3x12x3072 .f32
  a6 : Memref sig .tc .vmem S1x4608 .f32
  a7 : Memref sig .tc .vmem S1x4608 .f32
  a8 : Memref sig .tc .vmem S256x4608 .fp8e4m3
  a9 : Memref sig .tc .vmem S256x36 .f32
  a10 : Memref sig .tc .vmem S12x3072 .f32
  a11 : Memref sig .tc .vmem S12x3072 .f32
  a12 : Memref sig .tc .vmem S256x4608 .bf16
  a13 : Memref sig .tc .vmem S256x4608 .f32
  a14 : Memref sig .tc .vmem S256x128 .f32
  a15 : Memref sig .tc .vmem S256x128 .f32
  a16 : Memref sig .tc .vmem S256x128 .f32
  a17 : Memref sig .tc .vmem S256x128 .f32
  a18 : Memref sig .tc .vmem S256x128 .f32
  a19 : Memref sig .tc .vmem S3x24x12x128 .f32
  a20 : Memref sig .tc .vmem S3x24x12x128 .f32
  a21 : Memref sig .tc .vmem S24x12x128 .f32
  a22 : Memref sig .tc .vmem S24x12x128 .f32
  h8 : a8.IsWhole
  h12 : a12.IsWhole

/-- The eight row groups' loop. -/
@[reducible] def loop8 : Scf.Loop 32 := ⟨0#32, Scalar.addi 0#32 8#32, 1#32⟩

theorem loop8_ok : loop8.OK := by decide
theorem loop8_trips : loop8.trips = 8 := by decide

/-- The first row of a row group, as the kernel computes it. -/
def rowOff (k : Nat) : Nat :=
  (Scalar.indexCast (Scalar.muli (Scalar.addi 0#32 (Scalar.muli (Scf.iv 0#32 1#32 k) 1#32)) 32#32)).toNat

theorem rowOff_eq (k : Fin 8) : rowOff k = 32 * k.val := by revert k; decide +kernel

/-- The grid point's row of 3072 tokens, as the kernel computes it. -/
def rowWord (n : Nat) : BitVec 32 :=
  let arg0 : BitVec 32 := BitVec.ofNat 32 n
  let v0 := Scalar.divsi arg0 12#32
  let v2 : BitVec 32 := Scalar.extui (Scalar.cmpi .sgt arg0 0#32)
  let v4 : BitVec 32 := Scalar.extui (Scalar.cmpi .slt arg0 0#32)
  let v5 := Scalar.subi v2 v4
  let v7 : BitVec 32 := Scalar.extui (Scalar.cmpi .sgt 12#32 0#32)
  let v9 : BitVec 32 := Scalar.extui (Scalar.cmpi .slt 12#32 0#32)
  let v10 := Scalar.subi v7 v9
  let v11 := Scalar.cmpi .ne v5 v10
  let v12 := Scalar.remsi arg0 12#32
  let v13 := Scalar.cmpi .ne v12 0#32
  let v14 := Scalar.andi v11 v13
  Scalar.select v14 (Scalar.subi v0 1#32) v0

/-- The chunk of 128 tokens the grid point's tile `c` is, as the kernel computes it. -/
def chunkWord (n : Nat) (c : BitVec 32) : BitVec 32 :=
  let arg0 : BitVec 32 := BitVec.ofNat 32 n
  let v29 := Scalar.select (Scalar.cmpi .eq 12#32 0#32) 1#32 12#32
  let v30 := Scalar.remsi arg0 v29
  let v31 := Scalar.cmpi .ne v30 0#32
  let v32 := Scalar.cmpi .slt v30 0#32
  let v33 := Scalar.cmpi .slt v29 0#32
  let v35 := Scalar.andi (Scalar.xori v32 v33) v31
  let v37 := Scalar.select v35 (Scalar.addi v30 v29) v30
  Scalar.addi (Scalar.muli v37 2#32) c

def rowAt (n : Nat) : Nat := (Scalar.indexCast (rowWord n)).toNat
def chunkAt (n : Nat) (c : BitVec 32) : Nat := (Scalar.indexCast (chunkWord n c)).toNat

theorem rowAt_eq (n : Fin 144) : rowAt n = n.val / 12 := by revert n; decide +kernel
theorem chunkAt_eq (n : Fin 144) (c : Fin 2) : chunkAt n (BitVec.ofNat 32 c.val) = 2 * (n.val % 12) + c.val := by
  revert n c; decide +kernel

variable {nD : Nat} {τ : Topo} {sig : RefSig} {Λ₀ : Labels} {F : FTy → Type} [FloatOps F]

section Folds
variable {E : Type → Type} {s : Shape} {φ : FTy}

/-- `blk 0`, …, `blk (n-1)` in order. -/
def runBlks {N : Nat} (blk : ∀ j, j < N → Prog E PUnit) : (n : Nat) → n ≤ N → Prog E PUnit
  | 0, _ => pure ⟨⟩
  | n + 1, h => runBlks blk n (Nat.le_of_succ_le h) >>= fun _ => blk n h

/-- `blk 0`, …, `blk n` in order, the vectors they return added up from the left. -/
def sumBlks {N : Nat} (blk : ∀ j, j < N → Prog E (FVec F s φ)) : (n : Nat) → n < N → Prog E (FVec F s φ)
  | 0, h => blk 0 h
  | n + 1, h => sumBlks blk n (Nat.lt_of_succ_lt h) >>= fun acc => blk (n + 1) h >>= fun v => pure (addf acc v)

end Folds

/-! ## Rectangles -/

theorem inbRows {r0 j : Nat} (hr : r0 ≤ 224) (hj : j < 36) : ∀ a, (![r0, 128 * j] : Fin 2 → Nat) a + S32x128.size a ≤ S256x4608.size a := by
  intro a; fin_cases a <;> simp <;> omega

abbrev rowsRect (r0 j : Nat) (hr : r0 ≤ 224) (hj : j < 36) : Rect S256x4608 :=
  Rect.unit (s := S256x4608) ![r0, 128 * j] S32x128.size (inbRows hr hj)

theorem packed_bf16_aux : ∀ (k : Fin 8) (j : Fin 36),
    (rowsRect (32 * k.val) j.val (by omega) j.isLt).PackedRows (EltTy.packing .bf16) := by decide +kernel

theorem packed_bf16 {r0 j : Nat} (hr : r0 ≤ 224) (hj : j < 36) (h32 : 32 ∣ r0) :
    (rowsRect r0 j hr hj).PackedRows (EltTy.packing .bf16) := by
  obtain ⟨k, rfl⟩ := h32
  exact packed_bf16_aux ⟨k, by omega⟩ ⟨j, hj⟩

theorem packed_fp8_aux : ∀ (k : Fin 8) (j : Fin 36),
    (rowsRect (32 * k.val) j.val (by omega) j.isLt).PackedRows (EltTy.packing .fp8e4m3) := by decide +kernel

theorem packed_fp8 {r0 j : Nat} (hr : r0 ≤ 224) (hj : j < 36) (h32 : 32 ∣ r0) :
    (rowsRect r0 j hr hj).PackedRows (EltTy.packing .fp8e4m3) := by
  obtain ⟨k, rfl⟩ := h32
  exact packed_fp8_aux ⟨k, by omega⟩ ⟨j, hj⟩

theorem inbGrp {r0 : Nat} (hr : r0 ≤ 224) : ∀ a, (![r0, 0] : Fin 2 → Nat) a + S32x128.size a ≤ S256x128.size a := by
  intro a; fin_cases a <;> simp <;> omega
/-- Row group `r0 …` of a scratch buffer of 128 lanes. -/
abbrev grpRect (r0 : Nat) (hr : r0 ≤ 224) : Rect S256x128 := Rect.unit (s := S256x128) ![r0, 0] S32x128.size (inbGrp hr)

theorem inbCol {r0 j : Nat} (hr : r0 ≤ 224) (hj : j < 36) : ∀ a, (![r0, j] : Fin 2 → Nat) a + S32x1.size a ≤ S256x128.size a := by
  intro a; fin_cases a <;> simp <;> omega
/-- Column `j` of a row group. -/
abbrev colRect (r0 j : Nat) (hr : r0 ≤ 224) (hj : j < 36) : Rect S256x128 := Rect.unit (s := S256x128) ![r0, j] S32x1.size (inbCol hr hj)

theorem inbScl {r0 : Nat} (hr : r0 ≤ 224) : ∀ a, (![r0, 0] : Fin 2 → Nat) a + S32x36.size a ≤ S256x36.size a := by
  intro a; fin_cases a <;> simp <;> omega
abbrev sclRect (r0 : Nat) (hr : r0 ≤ 224) : Rect S256x36 := Rect.unit (s := S256x36) ![r0, 0] S32x36.size (inbScl hr)

theorem inbVec {j : Nat} (hj : j < 36) : ∀ a, (![0, 128 * j] : Fin 2 → Nat) a + S1x128.size a ≤ S1x4608.size a := by
  intro a; fin_cases a <;> simp <;> omega
abbrev vecRect (j : Nat) (hj : j < 36) : Rect S1x4608 := Rect.unit (s := S1x4608) ![0, 128 * j] S1x128.size (inbVec hj)

theorem inbChunk {k : Nat} (hk : k < 24) : ∀ a, (![0, 0, 128 * k] : Fin 3 → Nat) a + S3x12x128.size a ≤ S3x12x3072.size a := by
  intro a; fin_cases a <;> simp <;> omega
abbrev chunkRect (k : Nat) (hk : k < 24) : Rect S3x12x3072 := Rect.unit (s := S3x12x3072) ![0, 0, 128 * k] S3x12x128.size (inbChunk hk)

theorem inbSlab {k : Nat} (hk : k < 24) : ∀ a, (![0, k, 0, 0] : Fin 4 → Nat) a + S3x1x12x128.size a ≤ S3x24x12x128.size a := by
  intro a; fin_cases a <;> simp <;> omega
abbrev slabRect (k : Nat) (hk : k < 24) : Rect S3x24x12x128 := Rect.unit (s := S3x24x12x128) ![0, k, 0, 0] S3x1x12x128.size (inbSlab hk)

theorem inbOutChunk {k : Nat} (hk : k < 24) : ∀ a, (![0, 128 * k] : Fin 2 → Nat) a + S12x128.size a ≤ S12x3072.size a := by
  intro a; fin_cases a <;> simp <;> omega
abbrev outRect (k : Nat) (hk : k < 24) : Rect S12x3072 := Rect.unit (s := S12x3072) ![0, 128 * k] S12x128.size (inbOutChunk hk)

theorem inbPlane {k : Nat} (hk : k < 24) : ∀ a, (![k, 0, 0] : Fin 3 → Nat) a + S1x12x128.size a ≤ S24x12x128.size a := by
  intro a; fin_cases a <;> simp <;> omega
abbrev planeRect (k : Nat) (hk : k < 24) : Rect S24x12x128 := Rect.unit (s := S24x12x128) ![k, 0, 0] S1x12x128.size (inbPlane hk)

theorem inbTile {r0 : Nat} (hr : r0 ≤ 128) : ∀ a, (![r0, 0] : Fin 2 → Nat) a + S128x128.size a ≤ S256x128.size a := by
  intro a; fin_cases a <;> simp <;> omega
abbrev tileRect (r0 : Nat) (hr : r0 ≤ 128) : Rect S256x128 := Rect.unit (s := S256x128) ![r0, 0] S128x128.size (inbTile hr)

theorem inbStat {p ck rw : Nat} (hp : p < 3) (hc : ck < 24) (hr : rw < 12) :
    ∀ a, (![p, ck, rw, 0] : Fin 4 → Nat) a + S1x1x1x128.size a ≤ S3x24x12x128.size a := by
  intro a; fin_cases a <;> simp <;> omega
abbrev statRect (p ck rw : Nat) (hp : p < 3) (hc : ck < 24) (hr : rw < 12) : Rect S3x24x12x128 :=
  Rect.unit (s := S3x24x12x128) ![p, ck, rw, 0] S1x1x1x128.size (inbStat hp hc hr)

theorem inbMt {ck rw : Nat} (hc : ck < 24) (hr : rw < 12) :
    ∀ a, (![ck, rw, 0] : Fin 3 → Nat) a + S1x1x128.size a ≤ S24x12x128.size a := by
  intro a; fin_cases a <;> simp <;> omega
abbrev mtRect (ck rw : Nat) (hc : ck < 24) (hr : rw < 12) : Rect S24x12x128 :=
  Rect.unit (s := S24x12x128) ![ck, rw, 0] S1x1x128.size (inbMt hc hr)

theorem inbCnt {p : Nat} (hp : p < 3) : ∀ a, (![p] : Fin 1 → Nat) a + S1.size a ≤ S3.size a := by
  intro a; fin_cases a; simp; omega
abbrev cntRect (p : Nat) (hp : p < 3) : Rect S3 := Rect.unit (s := S3) ![p] S1.size (inbCnt hp)

theorem pos_S32x128 : 0 < S32x128.numel := by decide
theorem pos_S32x1 : 0 < S32x1.numel := by decide
theorem pos_S32x36 : 0 < S32x36.numel := by decide
theorem pos_S1x128 : 0 < S1x128.numel := by decide
theorem pos_S3x12x128 : 0 < S3x12x128.numel := by decide
theorem pos_S3x1x12x128 : 0 < S3x1x12x128.numel := by decide
theorem pos_S12x128 : 0 < S12x128.numel := by decide
theorem pos_S1x12x128 : 0 < S1x12x128.numel := by decide
theorem pos_S128x128 : 0 < S128x128.numel := by decide
theorem pos_S1x1x1x128 : 0 < S1x1x1x128.numel := by decide
theorem pos_S1x1x128 : 0 < S1x1x128.numel := by decide
theorem numel_S1 : S1.numel = 1 := by decide

/-! ## What a block computes -/

section Values

/-- The sum of a block of `x` and a block of `r`. -/
def hVec (x r : FVec F S32x128 .bf16) : FVec F S32x128 .bf16 :=
  addf (shapeCast S32x128 x (by decide)) (shapeCast S32x128 r (by decide))
def hfVec (x r : FVec F S32x128 .bf16) : FVec F S32x128 .f32 := extf .f32 (hVec x r) (by decide)

/-- The mean over a rank's features, from the lane sums. -/
def meanVec (acc : FVec F S32x128 .f32) : FVec F S32x128 .f32 :=
  broadcastTo S32x128 (shapeCast S32x1 (divf (shapeCast S32x1 (multiReduction .add [1] S32 acc 0x00000000#32 (by decide) (.inl rfl) rfl) (by decide))
    (broadcast S32x1 (Scalar.ofBits .f32 0x45900000#32))) (by decide)) (by decide)

/-- A squared deviation from the mean. -/
def sqVec (hf mean : FVec F S32x128 .f32) : FVec F S32x128 .f32 := mulf (subf hf mean) (subf hf mean)

/-- One step of the search for an exponent field. -/
def fieldStep {s : Shape} (v : FVec F s .f32) (c : BitVec 32) (f : IVec s 32) : IVec s 32 :=
  select (cmpf .oge v (bitcastToFloat .f32 (shli (addi f (broadcast s c)) (broadcast s 23#32)))) (addi f (broadcast s c)) f

/-- The exponent field a scale is written with. -/
def fieldVec {s : Shape} (v : FVec F s .f32) : IVec s 32 :=
  select (cmpf .oeq v (broadcast s (Scalar.ofBits .f32 0x00000000#32))) (broadcast s 127#32)
    (addi (minsi (fieldStep v 1#32 (fieldStep v 2#32 (fieldStep v 4#32 (fieldStep v 8#32 (fieldStep v 16#32 (fieldStep v 32#32
      (fieldStep v 64#32 (fieldStep v 128#32 (broadcast s 0#32))))))))) (broadcast s 246#32)) (broadcast s 1#32))

/-- The number whose exponent field is `f`. -/
def bitsVec {s : Shape} (f : IVec s 32) : FVec F s .f32 := bitcastToFloat .f32 (shli f (broadcast s 23#32))

def yVec (hf mean rstd : FVec F S32x128 .f32) (g b : FVec F S1x128 .f32) : FVec F S32x128 .f32 :=
  addf (mulf (mulf (subf hf mean) rstd) (broadcastTo S32x128 (shapeCast S1x128 g (by decide)) (by decide)))
    (broadcastTo S32x128 (shapeCast S1x128 b (by decide)) (by decide))

/-- The largest magnitude of a block's row. -/
def amaxVec (y : FVec F S32x128 .f32) : FVec F S32x1 .f32 :=
  shapeCast S32x1 (multiReduction .maximumf [1] S32 (absf y) 0xFF800000#32 (by decide) (.inl rfl) rfl) (by decide)

def scaledMax {s : Shape} (a : FVec F s .f32) : FVec F s .f32 := mulf a (broadcast s (Scalar.ofBits .f32 0x3B124925#32))

def invVec (a : FVec F S32x1 .f32) : FVec F S32x128 .f32 :=
  bitsVec (subi (broadcast S32x128 254#32)
    (fieldVec (scaledMax (broadcastTo S32x128 (shapeCast S32x1 a (by decide)) (by decide)))))

def codeVec (y inv : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf y inv))) (by decide)

def sclVec (a : FVec F S32x128 .f32) : FVec F S32x36 .f32 :=
  extractStridedSlice S32x36 ![0, 0] (bitsVec (fieldVec (scaledMax a))) (by decide)

/-! ### The merge of the ranks' statistics -/

/-- A tile's means, and the sums of its squared deviations. -/
def meanLoc (s1 : FVec F S128x128 .f32) : FVec F S1x128 .f32 :=
  extractStridedSlice S1x128 ![0, 0] (transpose S128x128 [1, 0] s1 (by decide)) (by decide)
def m2Loc (s2 : FVec F S128x128 .f32) : FVec F S1x128 .f32 :=
  shapeCast S1x128 (multiReduction .add [0] S128 (transpose S128x128 [1, 0] s2 (by decide)) 0x00000000#32 (by decide) (.inl rfl) rfl) (by decide)

/-- One rank's triple merged into another's: the mean and the sum of squared deviations. -/
def mergeMean (n n' : F .f32) (m m' : FVec F S1x128 .f32) : FVec F S1x128 .f32 :=
  addf m (mulf (subf m' m) (broadcast S1x128 (Scalar.divf n' (Scalar.addf n n'))))
def mergeM2 (n n' : F .f32) (m m' q q' : FVec F S1x128 .f32) : FVec F S1x128 .f32 :=
  addf (addf q q') (mulf (mulf (subf m' m) (subf m' m)) (broadcast S1x128 (Scalar.divf (Scalar.mulf n n') (Scalar.addf n n'))))

def nLoc : F .f32 := Scalar.ofBits .f32 0x45900000#32

def meanTot (n0 n1 n2 : F .f32) (m0 m1 m2 ml : FVec F S1x128 .f32) : FVec F S1x128 .f32 :=
  mergeMean (Scalar.addf (Scalar.addf n0 n1) n2) nLoc (mergeMean (Scalar.addf n0 n1) n2 (mergeMean n0 n1 m0 m1) m2) ml

def rstdTot (n0 n1 n2 : F .f32) (m0 m1 m2 ml q0 q1 q2 ql : FVec F S1x128 .f32) : FVec F S1x128 .f32 :=
  rsqrt (addf (divf
    (mergeM2 (Scalar.addf (Scalar.addf n0 n1) n2) nLoc (mergeMean (Scalar.addf n0 n1) n2 (mergeMean n0 n1 m0 m1) m2) ml
      (mergeM2 (Scalar.addf n0 n1) n2 (mergeMean n0 n1 m0 m1) m2 (mergeM2 n0 n1 m0 m1 q0 q1) q2) ql)
    (broadcast S1x128 (Scalar.addf (Scalar.addf (Scalar.addf n0 n1) n2) nLoc)))
    (broadcast S1x128 (Scalar.ofBits .f32 0x3727C5AC#32)))

def statVec (v : FVec F S1x1x1x128 .f32) : FVec F S1x128 .f32 := shapeCast S1x128 v (by decide)
def mtVec (v : FVec F S1x128 .f32) : FVec F S1x1x128 .f32 := shapeCast S1x1x128 v (by decide)
/-- A tile's row of statistics, one token per row. -/
def colVec (v : FVec F S1x128 .f32) : FVec F S128x128 .f32 :=
  shapeCast S128x128 (transpose S128x128 [1, 0] (broadcastTo S128x128 (shapeCast S1x128 v (by decide)) (by decide)) (by decide)) (by decide)
def slabVec (v : FVec F S3x12x128 .f32) : FVec F S3x1x12x128 .f32 := shapeCast S3x1x12x128 v (by decide)
def planeVec (v : FVec F S1x12x128 .f32) : FVec F S12x128 .f32 := shapeCast S12x128 v (by decide)

end Values

/-! ## The programs -/

section Programs
variable (R : Args sig)

/-- A load. -/
def ld {s : Shape} {e : EltTy} (m : Memref sig .tc .vmem s e) (r : Rect s) (hr : 0 < r.shape.numel) :
    Prog (TpuEff nD τ sig (Elt F) Λ₀ .tc) (r.shape.Idx → Elt F e) :=
  Prog.lift (.load m r.toLoadRect (View.loadsAt_vmem hr))

/-- A store of the whole rectangle, the place loaded first. -/
def st {s : Shape} {e : EltTy} (m : Memref sig .tc .vmem s e) (r : Rect s) (hr : 0 < r.shape.numel) (w : r.shape.Idx → Elt F e)
    (hs : (m.access r).Stores Finset.univ) :
    Prog (TpuEff nD τ sig (Elt F) Λ₀ .tc) PUnit :=
  ld m r hr >>= fun _ => Prog.lift (.store m r w Finset.univ hs (.inl rfl))

/-- A block of the first pass over a row group. -/
def blk1 (r0 : Nat) (hr : r0 ≤ 224) (h32 : 32 ∣ r0) (j : Nat) (hj : j < 36) : Prog (TpuEff nD τ sig (Elt F) Λ₀ .tc) (FVec F S32x128 .f32) :=
  ld R.a2 (rowsRect r0 j hr hj) pos_S32x128 >>= fun x =>
  ld R.a3 (rowsRect r0 j hr hj) pos_S32x128 >>= fun r =>
  st R.a12 (rowsRect r0 j hr hj) pos_S32x128 (hVec x r)
    (View.stores_vmem pos_S32x128 (R.h12.storeExact_slice rfl _ (packed_bf16 hr hj h32)) (fun _ => rfl)) >>= fun _ =>
  st R.a13 (rowsRect r0 j hr hj) pos_S32x128 (shapeCast S32x128 (hfVec x r) (by decide)) (View.stores_vmem_bits_univ pos_S32x128 rfl) >>= fun _ =>
  pure (hfVec x r)

/-- A block of the second pass. -/
def blk2 (r0 : Nat) (hr : r0 ≤ 224) (mean : FVec F S32x128 .f32) (j : Nat) (hj : j < 36) : Prog (TpuEff nD τ sig (Elt F) Λ₀ .tc) (FVec F S32x128 .f32) :=
  ld R.a13 (rowsRect r0 j hr hj) pos_S32x128 >>= fun hf => pure (sqVec hf mean)

/-- A row group's statistics. -/
def group1 (r0 : Nat) (hr : r0 ≤ 224) (h32 : 32 ∣ r0) : Prog (TpuEff nD τ sig (Elt F) Λ₀ .tc) PUnit :=
  sumBlks (blk1 R r0 hr h32) 35 (by decide) >>= fun acc =>
  st R.a15 (grpRect r0 hr) pos_S32x128 (shapeCast S32x128 (meanVec acc) (by decide)) (View.stores_vmem_bits_univ pos_S32x128 rfl) >>= fun _ =>
  sumBlks (blk2 R r0 hr (meanVec acc)) 35 (by decide) >>= fun acc2 =>
  st R.a16 (grpRect r0 hr) pos_S32x128 (shapeCast S32x128 acc2 (by decide)) (View.stores_vmem_bits_univ pos_S32x128 rfl)

/-- A block's quantisation. -/
def blk3 (r0 : Nat) (hr : r0 ≤ 224) (h32 : 32 ∣ r0) (mean rstd : FVec F S32x128 .f32) (j : Nat) (hj : j < 36) :
    Prog (TpuEff nD τ sig (Elt F) Λ₀ .tc) PUnit :=
  ld R.a13 (rowsRect r0 j hr hj) pos_S32x128 >>= fun hf =>
  ld R.a6 (vecRect j hj) pos_S1x128 >>= fun g =>
  ld R.a7 (vecRect j hj) pos_S1x128 >>= fun b =>
  st R.a14 (colRect r0 j hr hj) pos_S32x1 (shapeCast S32x1 (amaxVec (yVec hf mean rstd g b)) (by decide)) (View.stores_vmem_bits_univ pos_S32x1 rfl) >>= fun _ =>
  st R.a8 (rowsRect r0 j hr hj) pos_S32x128 (codeVec (yVec hf mean rstd g b) (invVec (amaxVec (yVec hf mean rstd g b))))
    (View.stores_vmem pos_S32x128 (R.h8.storeExact_slice rfl _ (packed_fp8 hr hj h32)) (fun _ => rfl))

/-- A row group's codes and scales. -/
def group2 (r0 : Nat) (hr : r0 ≤ 224) (h32 : 32 ∣ r0) : Prog (TpuEff nD τ sig (Elt F) Λ₀ .tc) PUnit :=
  ld R.a17 (grpRect r0 hr) pos_S32x128 >>= fun mean =>
  ld R.a18 (grpRect r0 hr) pos_S32x128 >>= fun rstd =>
  runBlks (blk3 R r0 hr h32 mean rstd) 36 (le_refl _) >>= fun _ =>
  ld R.a14 (grpRect r0 hr) pos_S32x128 >>= fun a =>
  st R.a9 (sclRect r0 hr) pos_S32x36 (sclVec a) (View.stores_vmem_bits_univ pos_S32x36 rfl)

/-- One chunk of the other ranks' statistics staged. -/
def stage (k : Nat) (hk : k < 24) : Prog (TpuEff nD τ sig (Elt F) Λ₀ .tc) PUnit :=
  ld R.a4 (chunkRect k hk) pos_S3x12x128 >>= fun v =>
  st R.a19 (slabRect k hk) pos_S3x1x12x128 (slabVec v) (View.stores_vmem_bits_univ pos_S3x1x12x128 rfl) >>= fun _ =>
  ld R.a5 (chunkRect k hk) pos_S3x12x128 >>= fun w =>
  st R.a20 (slabRect k hk) pos_S3x1x12x128 (slabVec w) (View.stores_vmem_bits_univ pos_S3x1x12x128 rfl)

/-- One chunk of the merged statistics written out. -/
def unstage (k : Nat) (hk : k < 24) : Prog (TpuEff nD τ sig (Elt F) Λ₀ .tc) PUnit :=
  ld R.a21 (planeRect k hk) pos_S1x12x128 >>= fun v =>
  st R.a10 (outRect k hk) pos_S12x128 (planeVec v) (View.stores_vmem_bits_univ pos_S12x128 rfl) >>= fun _ =>
  ld R.a22 (planeRect k hk) pos_S1x12x128 >>= fun w =>
  st R.a11 (outRect k hk) pos_S12x128 (planeVec w) (View.stores_vmem_bits_univ pos_S12x128 rfl)

/-- A rank's sample count. -/
def cnt (p : Nat) (hp : p < 3) : Prog (TpuEff nD τ sig (Elt F) Λ₀ .tc) (Elt F .f32) :=
  smemLoad R.a1 (cntRect p hp) numel_S1 rfl

/-- One tile's merge: its statistics kept for the results, and spread over its rows for the quantisation. -/
def tile (r0 : Nat) (hr : r0 ≤ 128) (ck rw : Nat) (hc : ck < 24) (hw : rw < 12) (ml ql : FVec F S1x128 .f32) : Prog (TpuEff nD τ sig (Elt F) Λ₀ .tc) PUnit :=
  cnt R 0 (by decide) >>= fun n0 =>
  ld R.a19 (statRect 0 ck rw (by decide) hc hw) pos_S1x1x1x128 >>= fun m0 =>
  ld R.a20 (statRect 0 ck rw (by decide) hc hw) pos_S1x1x1x128 >>= fun q0 =>
  cnt R 1 (by decide) >>= fun n1 =>
  ld R.a19 (statRect 1 ck rw (by decide) hc hw) pos_S1x1x1x128 >>= fun m1 =>
  ld R.a20 (statRect 1 ck rw (by decide) hc hw) pos_S1x1x1x128 >>= fun q1 =>
  cnt R 2 (by decide) >>= fun n2 =>
  ld R.a19 (statRect 2 ck rw (by decide) hc hw) pos_S1x1x1x128 >>= fun m2 =>
  ld R.a20 (statRect 2 ck rw (by decide) hc hw) pos_S1x1x1x128 >>= fun q2 =>
  st R.a21 (mtRect ck rw hc hw) pos_S1x1x128 (mtVec (meanTot n0 n1 n2 (statVec m0) (statVec m1) (statVec m2) ml))
    (View.stores_vmem_bits_univ pos_S1x1x128 rfl) >>= fun _ =>
  st R.a22 (mtRect ck rw hc hw) pos_S1x1x128
    (mtVec (rstdTot n0 n1 n2 (statVec m0) (statVec m1) (statVec m2) ml (statVec q0) (statVec q1) (statVec q2) ql))
    (View.stores_vmem_bits_univ pos_S1x1x128 rfl) >>= fun _ =>
  st R.a17 (tileRect r0 hr) pos_S128x128 (colVec (meanTot n0 n1 n2 (statVec m0) (statVec m1) (statVec m2) ml))
    (View.stores_vmem_bits_univ pos_S128x128 rfl) >>= fun _ =>
  st R.a18 (tileRect r0 hr) pos_S128x128
    (colVec (rstdTot n0 n1 n2 (statVec m0) (statVec m1) (statVec m2) ml (statVec q0) (statVec q1) (statVec q2) ql))
    (View.stores_vmem_bits_univ pos_S128x128 rfl)

theorem rowOff_le (k : Fin loop8.trips) : rowOff k.val ≤ 224 := by
  have := k.isLt; rw [rowOff_eq ⟨k.val, loop8_trips ▸ this⟩]; have : k.val < 8 := loop8_trips ▸ this; dsimp only; omega
theorem rowOff_dvd (k : Fin loop8.trips) : 32 ∣ rowOff k.val := by
  have := k.isLt; rw [rowOff_eq ⟨k.val, loop8_trips ▸ this⟩]; exact ⟨_, rfl⟩

theorem rowAt_lt {n : Nat} (hn : n < 144) : rowAt n < 12 := by rw [rowAt_eq ⟨n, hn⟩]; dsimp only; omega
theorem chunkAt_lt {n : Nat} (hn : n < 144) (c : Fin 2) : chunkAt n (BitVec.ofNat 32 c.val) < 24 := by
  rw [chunkAt_eq ⟨n, hn⟩]; dsimp only; omega

/-- Whether the grid point is the first. -/
def isFirst (n : Nat) : BitVec 1 := Scalar.cmpi .ne (Scalar.extui (Scalar.cmpi .eq (BitVec.ofNat 32 n) 0#32) : BitVec 32) 0#32
/-- Whether the grid point is the last. -/
def isLast (n : Nat) : BitVec 1 := Scalar.cmpi .ne (Scalar.extui (Scalar.cmpi .eq (BitVec.ofNat 32 n) 143#32) : BitVec 32) 0#32

/-- What the first part of the body hands to the rest: the first tile's means and sums of squared deviations, among
    words of the grid point's number. -/
abbrev Front (F : FTy → Type) : Type := Σ' (_ : BitVec 32) (_ : BitVec 32) (_ : FVec F S1x128 .f32) (_ : FVec F S1x128 .f32) (_ : BitVec 32)
  (_ : BitVec 32) (_ : BitVec 1), BitVec 1

def frontOf (n : Nat) (ml ql : FVec F S1x128 .f32) : Front F :=
  let v29 : BitVec 32 := Scalar.select (Scalar.cmpi .eq 12#32 0#32) 1#32 12#32
  let v30 : BitVec 32 := Scalar.remsi (BitVec.ofNat 32 n) v29
  ⟨BitVec.ofNat 32 n, rowWord n, ml, ql, v29, v30, Scalar.cmpi .ne v30 0#32, Scalar.cmpi .slt v30 0#32⟩

/-- The row groups' statistics, and the first tile's. -/
def stats (n : Nat) : Prog (TpuEff nD τ sig (Elt F) Λ₀ .tc) (Front F) :=
  Scf.Loop.for loop8 loop8_ok ⟨⟩ (fun k _ => group1 R (rowOff k.val) (rowOff_le k) (rowOff_dvd k)) >>= fun _ =>
  ld R.a15 (tileRect 0 (by decide)) pos_S128x128 >>= fun s1 =>
  ld R.a16 (tileRect 0 (by decide)) pos_S128x128 >>= fun s2 =>
  pure (frontOf n (meanLoc s1) (m2Loc s2))

def front (n : Nat) : Prog (TpuEff nD τ sig (Elt F) Λ₀ .tc) (Front F) :=
  if _h : isFirst n = 1#1 then runBlks (stage R) 24 (le_refl _) >>= fun _ => stats R n else stats R n

/-- The body before the merged statistics are written out. -/
def core (n : Nat) (hn : n < 144) : Prog (TpuEff nD τ sig (Elt F) Λ₀ .tc) (BitVec 32) :=
  front R n >>= fun f =>
  tile R 0 (by decide) (chunkAt n 0#32) (rowAt n) (chunkAt_lt hn 0) (rowAt_lt hn) f.2.2.1 f.2.2.2.1 >>= fun _ =>
  ld R.a15 (tileRect 128 (by decide)) pos_S128x128 >>= fun s1 =>
  ld R.a16 (tileRect 128 (by decide)) pos_S128x128 >>= fun s2 =>
  tile R 128 (by decide) (chunkAt n 1#32) (rowAt n) (chunkAt_lt hn 1) (rowAt_lt hn) (meanLoc s1) (m2Loc s2) >>= fun _ =>
  Scf.Loop.for loop8 loop8_ok ⟨⟩ (fun k _ => group2 R (rowOff k.val) (rowOff_le k) (rowOff_dvd k)) >>= fun _ =>
  pure (Scalar.extui (Scalar.cmpi .eq f.1 143#32))

/-- The kernel's body at grid point `n`. -/
def body (n : Nat) (hn : n < 144) : Prog (TpuEff nD τ sig (Elt F) Λ₀ .tc) PUnit :=
  core R n hn >>= fun _ =>
  if _h : isLast n = 1#1 then runBlks (unstage R) 24 (le_refl _) else pure ⟨⟩

end Programs

end K01
-- ==== Proof.Hoare.lean ====
/-
  Runs of the body's programs: from buffers that agree with given contents on given places, a program returns a
  given value and leaves buffers that agree with the same contents on more places. No buffer is written twice with
  different numbers, so one table of contents serves a whole run.
-/
module

public import proofs.«01_k».proof.Proof.Body

@[expose] public section

noncomputable section

namespace K01

open Idealize.ShloMosaic Idealize.ShloMosaic.TcCoe Idealize.SL Idealize.SL.Sem
open Idealize.SL.RA Idealize.SL.ProofMode
open Idealize.SL.BI (sProp bigSep bigSep_insert bigSep_mono bigSep_congr bigSep_univ_split bigSep_univ_eq_bigSepL)
open scoped Idealize.SL.BI
open Idealize.SL.BI.BIBase Idealize.SL.BI.Laws

/-- The body's buffers in vector memory, by the number of the argument. -/
inductive Buf' where
  | a2 | a3 | a4 | a5 | a6 | a7 | a8 | a9 | a10 | a11 | a12 | a13 | a14 | a15 | a16 | a17 | a18 | a19 | a20 | a21 | a22
  deriving DecidableEq

open Buf'

def bufs : List Buf' := [a2, a3, a4, a5, a6, a7, a8, a9, a10, a11, a12, a13, a14, a15, a16, a17, a18, a19, a20, a21, a22]

instance : Fintype Buf' := ⟨⟨bufs, by decide⟩, fun i => by cases i <;> decide⟩

@[reducible] def sh : Buf' → Shape
  | a2 | a3 | a8 | a12 | a13 => S256x4608
  | a4 | a5 => S3x12x3072
  | a6 | a7 => S1x4608
  | a9 => S256x36
  | a10 | a11 => S12x3072
  | a14 | a15 | a16 | a17 | a18 => S256x128
  | a19 | a20 => S3x24x12x128
  | a21 | a22 => S24x12x128

@[reducible] def el : Buf' → EltTy
  | a2 | a3 | a12 => .bf16
  | a8 => .fp8e4m3
  | _ => .f32

def Args.M {sig : RefSig} (R : Args sig) : (i : Buf') → Memref sig .tc .vmem (sh i) (el i)
  | .a2 => R.a2 | .a3 => R.a3 | .a4 => R.a4 | .a5 => R.a5 | .a6 => R.a6 | .a7 => R.a7 | .a8 => R.a8 | .a9 => R.a9 | .a10 => R.a10
  | .a11 => R.a11 | .a12 => R.a12 | .a13 => R.a13 | .a14 => R.a14 | .a15 => R.a15 | .a16 => R.a16 | .a17 => R.a17 | .a18 => R.a18
  | .a19 => R.a19 | .a20 => R.a20 | .a21 => R.a21 | .a22 => R.a22

/-- Contents of every buffer. -/
abbrev St (F : FTy → Type) : Type := (i : Buf') → (sh i).Idx → Elt F (el i)

/-- Places of every buffer. -/
abbrev Dom : Type := (i : Buf') → Set (sh i).Idx

/-- The places `S` of buffer `i`. -/
def single (i : Buf') (S : Set (sh i).Idx) : Dom := Function.update (fun _ => ∅) i S

theorem mem_single {i : Buf'} {S : Set (sh i).Idx} {y : (sh i).Idx} : y ∈ single i S i ↔ y ∈ S := by
  unfold single; rw [Function.update_self]

theorem not_mem_single {i j : Buf'} {S : Set (sh i).Idx} {y : (sh j).Idx} (h : j ≠ i) : y ∉ single i S j := by
  unfold single; rw [Function.update_of_ne h]; exact fun h => h

/-- Agreement on the places `D`. -/
def Agree {F : FTy → Type} (G : St F) (D : Dom) (σ : St F) : Prop := ∀ i, ∀ y ∈ D i, σ i y = G i y

variable {nD : Nat} {τ : Topo} {sig : RefSig} {Ix : Type} [DecidableEq Ix] {Λ₀ : Labels} {F : FTy → Type} [FloatOps F]
variable {Name : Type} [DecidableEq Name] {U : Type} [URA U] {Lvl : Type} [Preorder Lvl]
variable (defs₀ : Defs nD τ sig (Elt F) Λ₀) (𝒱 : Variants) (c : Dev nD) (E : Set Name)

local notation "𝕄" => MT nD τ sig Ix (Elt F) Name U Lvl

/-- The body's buffers held whole: the counts `C`, the others at `σ`. -/
def own (R : Args sig) (C : S3.Idx → Elt F .f32) (σ : St F) : sProp 𝕄 :=
  iprop(owns (c : Thread nD τ) R.a1 fullShare C ∗ bigSep Finset.univ fun i : Buf' => owns (c : Thread nD τ) (R.M i) fullShare (σ i))

/-- The buffers held at contents agreeing with `G` on `D`. -/
def Inv (R : Args sig) (C : S3.Idx → Elt F .f32) (G : St F) (D : Dom) : sProp 𝕄 :=
  iprop(∃ σ : St F, ⌜Agree G D σ⌝ ∗ own c R C σ)

/-- The run of a program from agreement on `D` to the value `v` and agreement on `D'`. -/
def Runs (R : Args sig) (C : S3.Idx → Elt F .f32) (G : St F) (D : Dom) {α : Type} (p : Prog (TpuEff nD τ sig (Elt F) Λ₀ .tc) α) (v : α) (D' : Dom) : Prop :=
  (Inv c R C G D : sProp 𝕄) ⊢ wp frame (wpE defs₀ 𝒱 (c : Thread nD τ) none) E p fun a => iprop(⌜a = v⌝ ∗ Inv c R C G D')

variable {defs₀ 𝒱 c E}
variable {R : Args sig} {C : S3.Idx → Elt F .f32} {G : St F} {D D' D'' : Dom} {α β : Type}

local notation "runs" => Runs (Ix := Ix) (U := U) (Lvl := Lvl) defs₀ 𝒱 c E R C G

theorem Inv.mono (h : ∀ i, D' i ⊆ D i) : (Inv c R C G D : sProp 𝕄) ⊢ Inv c R C G D' := by
  unfold Inv
  iintro ⟨%σ, %hA, H⟩
  iexists σ
  isplitr
  · ipureintro; exact fun i y hy => hA i y (h i hy)
  · iexact H

theorem Runs.mono {D₁ D₁' : Dom} {p : Prog (TpuEff nD τ sig (Elt F) Λ₀ .tc) α} {v : α} (H : runs D p v D') (h : ∀ i, D i ⊆ D₁ i) (h' : ∀ i, D₁' i ⊆ D' i) :
    runs D₁ p v D₁' := by
  unfold Runs at H ⊢
  refine (Inv.mono h).trans (H.trans (wp_mono _ _ _ fun a => ?_))
  iintro ⟨%ha, HI⟩
  isplitr
  · ipureintro; exact ha
  · iapply (Inv.mono h') $$ HI

theorem Runs.pure (v : α) : runs D (pure v) v D := by
  unfold Runs
  rw [wp_pure]
  iintro H
  imodintro
  isplitr
  · ipureintro; rfl
  · iexact H

theorem Runs.bind {p : Prog (TpuEff nD τ sig (Elt F) Λ₀ .tc) α} {k : α → Prog (TpuEff nD τ sig (Elt F) Λ₀ .tc) β} {v : α} {w : β}
    (H : runs D p v D') (K : runs D' (k v) w D'') : runs D (p >>= k) w D'' := by
  unfold Runs at H K ⊢
  rw [wp_bind]
  refine H.trans (wp_mono _ _ _ fun a => ?_)
  iintro ⟨%ha, HI⟩
  subst ha
  iapply K $$ HI

theorem own_split (i : Buf') (σ : St F) :
    (own c R C σ : sProp 𝕄) = iprop(owns (c : Thread nD τ) R.a1 fullShare C
      ∗ (owns (c : Thread nD τ) (R.M i) fullShare (σ i) ∗ bigSep (Finset.univ.erase i) fun i : Buf' => owns (c : Thread nD τ) (R.M i) fullShare (σ i))) := by
  unfold own; rw [bigSep_univ_split i]; rfl

/-- One buffer's contents replaced. -/
theorem own_update (i : Buf') (σ : St F) (X : (sh i).Idx → Elt F (el i)) :
    (own c R C (Function.update σ i X) : sProp 𝕄) = iprop(owns (c : Thread nD τ) R.a1 fullShare C
      ∗ (owns (c : Thread nD τ) (R.M i) fullShare X ∗ bigSep (Finset.univ.erase i) fun i : Buf' => owns (c : Thread nD τ) (R.M i) fullShare (σ i))) := by
  rw [own_split i, Function.update_self, bigSep_congr fun j hj => by rw [Function.update_of_ne (Finset.ne_of_mem_erase hj)]]

theorem own_update' (i : Buf') (σ : St F) (X : (sh i).Idx → Elt F (el i)) (f : Buf (Elt F) ((R.M i).view.loc (c : Thread nD τ)))
    (hf : (R.M i).view.read (Elt F) f = X) :
    iprop(owns (c : Thread nD τ) R.a1 fullShare C
      ∗ (((R.M i).view.loc (c : Thread nD τ) ↦[(R.M i).view.set]{fullShare} f)
        ∗ bigSep (Finset.univ.erase i) fun i : Buf' => owns (c : Thread nD τ) (R.M i) fullShare (σ i))) ⊢ (own c R C (Function.update σ i X) : sProp 𝕄) := by
  rw [own_update i]
  iintro ⟨HC, Hf, HR⟩
  isplitl [HC]; · iexact HC
  isplitl [Hf]
  · unfold owns
    iexists f; isplitr; · ipureintro; exact hf
    iexact Hf
  · iexact HR

theorem owns_open (i : Buf') (X : (sh i).Idx → Elt F (el i)) : (owns (c : Thread nD τ) (R.M i) fullShare X : sProp 𝕄)
    ⊢ iprop(∃ f, ⌜(R.M i).view.read (Elt F) f = X⌝ ∗ ((R.M i).view.loc (c : Thread nD τ) ↦[(R.M i).view.set]{fullShare} f)) := .rfl

/-- A load, whatever is read. -/
theorem wp_ld_any (i : Buf') (r : Rect (sh i)) (hr : 0 < r.shape.numel) (σ : St F) :
    (own c R C σ : sProp 𝕄) ⊢ wp frame (wpE defs₀ 𝒱 (c : Thread nD τ) none) E (ld (Λ₀ := Λ₀) (nD := nD) (τ := τ) (R.M i) r hr)
      fun a => iprop(⌜a = fun x => σ i (r.idx x)⌝ ∗ own c R C σ) := by
  rw [own_split i]
  unfold owns
  iintro ⟨HC, ⟨%f, %hf, Hf⟩, HR⟩
  iapply (wp_load (m := R.M i) (r := r.toLoadRect) (S := (R.M i).view.set) (q := fullShare) (f := f) 𝒱 (c : Thread nD τ) none E (View.setOn_subset_set _ _)) $$ Hf
  iintro Hf
  rw [wp_ret]
  imodintro
  isplitr
  · ipureintro; rw [← hf]; rfl
  · isplitl [HC]; · iexact HC
    isplitl [Hf]
    · iexists f; isplitr; · ipureintro; exact hf
      iexact Hf
    · iexact HR

theorem Runs.ld (i : Buf') (r : Rect (sh i)) (hr : 0 < r.shape.numel) (h : ∀ x, r.idx x ∈ D i) :
    runs D (ld (R.M i) r hr) (fun x => G i (r.idx x)) D := by
  unfold Runs Inv
  iintro ⟨%σ, %hA, H⟩
  have key : (own c R C σ : sProp 𝕄) ⊢ wp frame (wpE defs₀ 𝒱 (c : Thread nD τ) none) E (K01.ld (Λ₀ := Λ₀) (nD := nD) (τ := τ) (R.M i) r hr)
      fun a => iprop(⌜a = fun x => G i (r.idx x)⌝ ∗ ∃ σ : St F, ⌜Agree G D σ⌝ ∗ own c R C σ) := by
    refine (wp_ld_any i r hr σ).trans (wp_mono _ _ _ fun a => ?_)
    iintro ⟨%ha, H⟩
    isplitr
    · ipureintro; rw [ha]; funext x; exact hA i _ (h x)
    · iexists σ; isplitr; · ipureintro; exact hA
      iexact H
  iapply key $$ H

theorem wp_st (i : Buf') (r : Rect (sh i)) (hr : 0 < r.shape.numel) (w : r.shape.Idx → Elt F (el i))
    (hs : ((R.M i).access r).Stores Finset.univ) (σ : St F) :
    (own c R C σ : sProp 𝕄) ⊢ wp frame (wpE defs₀ 𝒱 (c : Thread nD τ) none) E (st (Λ₀ := Λ₀) (nD := nD) (τ := τ) (R.M i) r hr w hs)
      fun _ => iprop(∃ X : (sh i).Idx → Elt F (el i), ⌜(∀ x, X (r.idx x) = w x) ∧ ∀ y ∉ r.set, X y = σ i y⌝ ∗ own c R C (Function.update σ i X)) := by
  unfold st
  rw [wp_bind]
  refine (wp_ld_any i r hr σ).trans (wp_mono _ _ _ fun a => ?_)
  rw [own_split i]
  iintro ⟨-, HC, HM, HR⟩
  ihave HM := (owns_open i (σ i)) $$ HM
  icases HM with ⟨%f, %hf, Hf⟩
  iapply (wp_store (m := R.M i) (r := r) (S := (R.M i).view.set) (f := f) 𝒱 (c : Thread nD τ) none E (View.set_slice_subset _ _)) $$ Hf
  iintro Hf
  rw [wp_ret]
  imodintro
  iexists (R.M i).view.read (Elt F) (((R.M i).access r).write (Elt F) f w Finset.univ)
  isplitr
  · ipureintro
    refine ⟨fun x => View.read_slice_write_emb r f w (Finset.mem_univ x), fun y hy => ?_⟩
    rw [← hf]
    exact View.read_slice_write_of_not_mem r f w _ (by rwa [Rect.map_emb_univ])
  · iapply (own_update' i σ _ _ rfl)
    isplitl [HC]; · iexact HC
    isplitl [Hf]; · iexact Hf
    iexact HR

theorem Runs.st (i : Buf') (r : Rect (sh i)) (hr : 0 < r.shape.numel) (w : r.shape.Idx → Elt F (el i))
    (hs : ((R.M i).access r).Stores Finset.univ) (h : ∀ x, w x = G i (r.idx x)) :
    runs D (st (R.M i) r hr w hs) ⟨⟩ (D ⊔ single i {y | y ∈ r.set}) := by
  unfold Runs Inv
  iintro ⟨%σ, %hA, H⟩
  have key : (own c R C σ : sProp 𝕄) ⊢ wp frame (wpE defs₀ 𝒱 (c : Thread nD τ) none) E (K01.st (Λ₀ := Λ₀) (nD := nD) (τ := τ) (R.M i) r hr w hs)
      fun a => iprop(⌜a = ⟨⟩⌝ ∗ ∃ σ : St F, ⌜Agree G (D ⊔ single i {y | y ∈ r.set}) σ⌝ ∗ own c R C σ) := by
    refine (wp_st i r hr w hs σ).trans (wp_mono _ _ _ fun a => ?_)
    iintro ⟨%X, %hX, H⟩
    isplitr
    · ipureintro; rfl
    · iexists (Function.update σ i X); isplitr
      · ipureintro
        intro j y hy
        by_cases hj : j = i
        · subst hj
          rw [Function.update_self]
          by_cases hm : y ∈ r.set
          · obtain ⟨x, rfl⟩ := r.exists_idx_of_mem hm
            rw [hX.1, h]
          · rw [hX.2 y hm]
            exact hA j y (hy.resolve_right fun h => hm (mem_single.mp h))
        · rw [Function.update_of_ne hj]
          exact hA j y (hy.resolve_right (not_mem_single hj))
      · iexact H
  iapply key $$ H

theorem pos_S1 : 0 < S1.numel := by decide

/-- A count's load. -/
theorem Runs.cnt (p : Nat) (hp : p < 3) : runs D (cnt R p hp) (C ((cntRect p hp).idx (Shape.Idx.first pos_S1))) D := by
  unfold Runs Inv own owns K01.cnt smemLoad
  iintro ⟨%σ, %hA, ⟨%f, %hf, Hf⟩, HR⟩
  iapply (wp_smemLoadElt (m := R.a1) (r := cntRect p hp) (S := R.a1.view.set) (q := fullShare) (f := f) 𝒱 (c : Thread nD τ) none E (View.set_slice_subset _ _)) $$ Hf
  iintro Hf
  rw [wp_ret]
  imodintro
  isplitr
  · ipureintro; rw [← hf]; rfl
  · iexists σ
    isplitr; · ipureintro; exact hA
    isplitl [Hf]
    · iexists f; isplitr; · ipureintro; exact hf
      iexact Hf
    · iexact HR

/-- A branch. -/
theorem Runs.dite {P : Prop} [Decidable P] {p : P → Prog (TpuEff nD τ sig (Elt F) Λ₀ .tc) α} {q : ¬P → Prog (TpuEff nD τ sig (Elt F) Λ₀ .tc) α} {v : α}
    (H : ∀ h, runs D (p h) v D') (K : ∀ h, runs D (q h) v D') : runs D (if h : P then p h else q h) v D' := by
  split
  · exact H _
  · exact K _

theorem Runs.cast {D₁ : Dom} {p : Prog (TpuEff nD τ sig (Elt F) Λ₀ .tc) α} {v w : α} (H : runs D p v D') (hv : v = w) (hD : D₁ ≤ D') : runs D p w D₁ :=
  hv ▸ H.mono (fun _ => le_refl _) hD

/-- A load whose value is known in part. -/
theorem Runs.ld_bind (i : Buf') (r : Rect (sh i)) (hr : 0 < r.shape.numel) {k : (r.shape.Idx → Elt F (el i)) → Prog (TpuEff nD τ sig (Elt F) Λ₀ .tc) β} {w : β}
    (K : ∀ a : r.shape.Idx → Elt F (el i), (∀ x, r.idx x ∈ D i → a x = G i (r.idx x)) → runs D (k a) w D') :
    runs D (K01.ld (R.M i) r hr >>= k) w D' := by
  unfold Runs Inv at K ⊢
  rw [wp_bind]
  iintro ⟨%σ, %hA, H⟩
  have key : (own c R C σ : sProp 𝕄) ⊢ wp frame (wpE defs₀ 𝒱 (c : Thread nD τ) none) E (K01.ld (Λ₀ := Λ₀) (nD := nD) (τ := τ) (R.M i) r hr)
      fun a => wp frame (wpE defs₀ 𝒱 (c : Thread nD τ) none) E (k a) fun a => iprop(⌜a = w⌝ ∗ ∃ σ : St F, ⌜Agree G D' σ⌝ ∗ own c R C σ) := by
    refine (wp_ld_any i r hr σ).trans (wp_mono _ _ _ fun a => ?_)
    iintro ⟨%ha, H⟩
    iapply (K a (fun x hx => by rw [ha]; exact hA i _ hx))
    iexists σ; isplitr; · ipureintro; exact hA
    iexact H
  iapply key $$ H

section Folds

variable {N : Nat}

/-- `B 0`, …, `B (n-1)` together. -/
def upTo (B : ∀ j, j < N → Dom) : (n : Nat) → n ≤ N → Dom
  | 0, _ => ⊥
  | n + 1, h => upTo B n (Nat.le_of_succ_le h) ⊔ B n h

theorem upTo_succ_le (B : ∀ j, j < N → Dom) (D : Dom) (n : Nat) (h : n + 1 ≤ N) :
    D ⊔ upTo B (n + 1) h ≤ D ⊔ upTo B n (Nat.le_of_succ_le h) ⊔ B n h := (sup_assoc D (upTo B n _) (B n h)).ge

theorem le_upTo {B : ∀ j, j < N → Dom} {j : Nat} (hj : j < N) : ∀ n hn, j < n → B j hj ≤ upTo B n hn
  | 0, _, h => absurd h (Nat.not_lt_zero _)
  | n + 1, hn, h => by
    unfold upTo
    rcases Nat.lt_succ_iff_lt_or_eq.mp h with h | rfl
    · exact (le_upTo hj n _ h).trans le_sup_left
    · exact le_sup_right

/-- A fold of blocks. -/
theorem Runs.runBlks {blk : ∀ j, j < N → Prog (TpuEff nD τ sig (Elt F) Λ₀ .tc) PUnit} (B : ∀ j, j < N → Dom)
    (h : ∀ j hj D', D ≤ D' → runs D' (blk j hj) ⟨⟩ (D' ⊔ B j hj)) : ∀ n hn, runs D (runBlks blk n hn) ⟨⟩ (D ⊔ upTo B n hn)
  | 0, _ => (Runs.pure _).cast rfl (by unfold upTo; simp)
  | n + 1, hn => Runs.bind (Runs.runBlks B h n _) ((h n hn _ le_sup_left).cast rfl (upTo_succ_le _ _ _ _))

/-- The sum of the vectors, from the left. -/
def accum {s : Shape} {φ : FTy} (v : ∀ j, j < N → FVec F s φ) : (n : Nat) → n < N → FVec F s φ
  | 0, h => v 0 h
  | n + 1, h => addf (accum v n (Nat.lt_of_succ_lt h)) (v (n + 1) h)

theorem Runs.sumBlks {s : Shape} {φ : FTy} {blk : ∀ j, j < N → Prog (TpuEff nD τ sig (Elt F) Λ₀ .tc) (FVec F s φ)} (v : ∀ j, j < N → FVec F s φ)
    (B : ∀ j, j < N → Dom) (h : ∀ j hj D', D ≤ D' → runs D' (blk j hj) (v j hj) (D' ⊔ B j hj)) :
    ∀ n hn, runs D (sumBlks blk n hn) (accum v n hn) (D ⊔ upTo B (n + 1) hn)
  | 0, hn => (h 0 hn D le_rfl).cast rfl (by unfold upTo upTo; simp)
  | n + 1, hn => Runs.bind (Runs.sumBlks v B h n _) (Runs.bind (h (n + 1) hn _ le_sup_left) ((Runs.pure _).cast rfl
      (upTo_succ_le _ _ _ _)))

/-- A loop. -/
theorem Runs.for (l : Scf.Loop 32) (hok : l.OK) (body : Fin l.trips → PUnit → Prog (TpuEff nD τ sig (Elt F) Λ₀ .tc) PUnit) (B : ∀ k, k < l.trips → Dom)
    (h : ∀ (k : Fin l.trips) D', D ≤ D' → runs D' (body k ⟨⟩) ⟨⟩ (D' ⊔ B k.val k.isLt)) :
    runs D (Scf.Loop.for l hok ⟨⟩ body) ⟨⟩ (D ⊔ upTo B l.trips le_rfl) := by
  have hk : ∀ k : Fin l.trips, runs (D ⊔ upTo B k.val k.isLt.le) (body k ⟨⟩) ⟨⟩ (D ⊔ upTo B (k.val + 1) k.isLt) := fun k =>
    (h k _ le_sup_left).cast rfl (upTo_succ_le _ _ _ _)
  unfold Runs at hk ⊢
  have key := Scf.wp_for (Idealize.ShloMosaic.frame (nD := nD)) (wpE (Ix := Ix) (U := U) (Lvl := Lvl) defs₀ 𝒱 (c : Thread nD τ) none) E l.lb l.ub l.st hok PUnit.unit body
    (fun k _ => iprop(∃ h : k ≤ l.trips, Inv c R C G (D ⊔ upTo B k h))) (fun k acc => by
      iintro ⟨%h, H⟩
      have hk' := (hk k).trans (wp_mono _ _ _ (Q' := fun _ => iprop(∃ h : k.val + 1 ≤ l.trips, Inv c R C G (D ⊔ upTo B (k.val + 1) h))) fun a => by
        iintro ⟨-, H⟩
        iexists k.isLt
        iexact H)
      iapply hk' $$ H)
    (Q := fun a => iprop(⌜a = PUnit.unit⌝ ∗ Inv c R C G (D ⊔ upTo B l.trips le_rfl)))
  refine BI.BIBase.Entails.trans ?_ key
  iintro H
  isplitl [H]
  · iexists Nat.zero_le _
    iapply (Inv.mono (show D ⊔ upTo B 0 (Nat.zero_le _) ≤ D by unfold upTo; simp)) $$ H
  · iintro %acc ⟨%h, H⟩
    isplitr
    · ipureintro; rfl
    · iexact H

end Folds

theorem single_le {i : Buf'} {S : Set (sh i).Idx} {D : Dom} : single i S ≤ D ↔ S ⊆ D i := by
  constructor
  · intro h y hy; exact h i (mem_single.mpr hy)
  · intro h j y hy
    by_cases hj : j = i
    · subst hj; exact h (mem_single.mp hy)
    · exact absurd hy (not_mem_single hj)

end K01
-- ==== Proof.Spec.lean ====
/-
  The run of the body at one grid point: from contents `G` that satisfy the kernel's equations at that point, the
  body leaves buffers that agree with `G` on everything it wrote.
-/
module

public import proofs.«01_k».proof.Proof.Hoare
public import Idealize.ShloMosaic.Lib.Pipeline.Value

@[expose] public section

noncomputable section

namespace K01

open Idealize.ShloMosaic Idealize.ShloMosaic.TcCoe Idealize.SL Idealize.SL.Sem
open Idealize.SL.RA
open Buf'

attribute [local irreducible] upTo accum K01.runBlks K01.sumBlks

variable {α : Type}

/-! ## Parts of arrays -/

def rowsOf (X : S256x4608.Idx → α) (r0 j : Nat) (hr : r0 ≤ 224) (hj : j < 36) : S32x128.Idx → α := fun x => X ((rowsRect r0 j hr hj).idx x)
def grpOf (X : S256x128.Idx → α) (r0 : Nat) (hr : r0 ≤ 224) : S32x128.Idx → α := fun x => X ((grpRect r0 hr).idx x)
def colOf (X : S256x128.Idx → α) (r0 j : Nat) (hr : r0 ≤ 224) (hj : j < 36) : S32x1.Idx → α := fun x => X ((colRect r0 j hr hj).idx x)
def sclOf (X : S256x36.Idx → α) (r0 : Nat) (hr : r0 ≤ 224) : S32x36.Idx → α := fun x => X ((sclRect r0 hr).idx x)
def vecOf (X : S1x4608.Idx → α) (j : Nat) (hj : j < 36) : S1x128.Idx → α := fun x => X ((vecRect j hj).idx x)
def chunkOf (X : S3x12x3072.Idx → α) (k : Nat) (hk : k < 24) : S3x12x128.Idx → α := fun x => X ((chunkRect k hk).idx x)
def slabOf (X : S3x24x12x128.Idx → α) (k : Nat) (hk : k < 24) : S3x1x12x128.Idx → α := fun x => X ((slabRect k hk).idx x)
def outOf (X : S12x3072.Idx → α) (k : Nat) (hk : k < 24) : S12x128.Idx → α := fun x => X ((outRect k hk).idx x)
def planeOf (X : S24x12x128.Idx → α) (k : Nat) (hk : k < 24) : S1x12x128.Idx → α := fun x => X ((planeRect k hk).idx x)
def tileOf (X : S256x128.Idx → α) (r0 : Nat) (hr : r0 ≤ 128) : S128x128.Idx → α := fun x => X ((tileRect r0 hr).idx x)
def statOf (X : S3x24x12x128.Idx → α) (p ck rw : Nat) (hp : p < 3) (hc : ck < 24) (hr : rw < 12) : S1x1x1x128.Idx → α :=
  fun x => X ((statRect p ck rw hp hc hr).idx x)
def mtOf (X : S24x12x128.Idx → α) (ck rw : Nat) (hc : ck < 24) (hr : rw < 12) : S1x1x128.Idx → α := fun x => X ((mtRect ck rw hc hr).idx x)
def cntOf (C : S3.Idx → α) (p : Nat) (hp : p < 3) : α := C ((cntRect p hp).idx (Shape.Idx.first pos_S1))

variable {F : FTy → Type} [FloatOps F]

/-- A block of the normalised rows, from the blocks in the buffers. -/
def yAt (G : St F) (r0 j : Nat) (hr : r0 ≤ 224) (hj : j < 36) : FVec F S32x128 .f32 :=
  yVec (rowsOf (G a13) r0 j hr hj) (grpOf (G a17) r0 hr) (grpOf (G a18) r0 hr) (vecOf (G a6) j hj) (vecOf (G a7) j hj)

/-- A tile's merged means. -/
def meanAt (C : S3.Idx → Elt F .f32) (M : FVec F S3x24x12x128 .f32) (ck rw : Nat) (hc : ck < 24) (hw : rw < 12) (ml : FVec F S1x128 .f32) : FVec F S1x128 .f32 :=
  meanTot (cntOf C 0 (by decide)) (cntOf C 1 (by decide)) (cntOf C 2 (by decide))
    (statVec (statOf M 0 ck rw (by decide) hc hw)) (statVec (statOf M 1 ck rw (by decide) hc hw))
    (statVec (statOf M 2 ck rw (by decide) hc hw)) ml

/-- A tile's merged reciprocal deviations. -/
def rstdAt (C : S3.Idx → Elt F .f32) (M Q : FVec F S3x24x12x128 .f32) (ck rw : Nat) (hc : ck < 24) (hw : rw < 12) (ml ql : FVec F S1x128 .f32) : FVec F S1x128 .f32 :=
  rstdTot (cntOf C 0 (by decide)) (cntOf C 1 (by decide)) (cntOf C 2 (by decide))
    (statVec (statOf M 0 ck rw (by decide) hc hw)) (statVec (statOf M 1 ck rw (by decide) hc hw))
    (statVec (statOf M 2 ck rw (by decide) hc hw)) ml
    (statVec (statOf Q 0 ck rw (by decide) hc hw)) (statVec (statOf Q 1 ck rw (by decide) hc hw))
    (statVec (statOf Q 2 ck rw (by decide) hc hw)) ql

/-- The equations of a tile's merge. -/
structure TileEqs (C : S3.Idx → Elt F .f32) (G : St F) (r0 : Nat) (hr : r0 ≤ 128) (ck rw : Nat) (hc : ck < 24) (hw : rw < 12) : Prop where
  e21 : mtVec (meanAt C (G a19) ck rw hc hw (meanLoc (tileOf (G a15) r0 hr))) = mtOf (G a21) ck rw hc hw
  e22 : mtVec (rstdAt C (G a19) (G a20) ck rw hc hw (meanLoc (tileOf (G a15) r0 hr)) (m2Loc (tileOf (G a16) r0 hr))) = mtOf (G a22) ck rw hc hw
  e17 : colVec (meanAt C (G a19) ck rw hc hw (meanLoc (tileOf (G a15) r0 hr))) = tileOf (G a17) r0 hr
  e18 : colVec (rstdAt C (G a19) (G a20) ck rw hc hw (meanLoc (tileOf (G a15) r0 hr)) (m2Loc (tileOf (G a16) r0 hr))) = tileOf (G a18) r0 hr

/-- The equations of a grid point. -/
structure StepEqs (C : S3.Idx → Elt F .f32) (G : St F) (n : Nat) (hn : n < 144) : Prop where
  e12 : ∀ r0 j hr hj, hVec (rowsOf (G a2) r0 j hr hj) (rowsOf (G a3) r0 j hr hj) = rowsOf (G a12) r0 j hr hj
  e13 : ∀ r0 j hr hj, hfVec (rowsOf (G a2) r0 j hr hj) (rowsOf (G a3) r0 j hr hj) = rowsOf (G a13) r0 j hr hj
  e15 : ∀ r0 hr, 32 ∣ r0 → meanVec (accum (fun j hj => rowsOf (G a13) r0 j hr hj) 35 (by decide)) = grpOf (G a15) r0 hr
  e16 : ∀ r0 hr, 32 ∣ r0 → accum (fun j hj => sqVec (rowsOf (G a13) r0 j hr hj) (grpOf (G a15) r0 hr)) 35 (by decide) = grpOf (G a16) r0 hr
  t0 : TileEqs C G 0 (by decide) (chunkAt n 0#32) (rowAt n) (chunkAt_lt hn 0) (rowAt_lt hn)
  t1 : TileEqs C G 128 (by decide) (chunkAt n 1#32) (rowAt n) (chunkAt_lt hn 1) (rowAt_lt hn)
  e14 : ∀ r0 j hr hj, 32 ∣ r0 → amaxVec (yAt G r0 j hr hj) = colOf (G a14) r0 j hr hj
  e8 : ∀ r0 j hr hj, 32 ∣ r0 → codeVec (yAt G r0 j hr hj) (invVec (amaxVec (yAt G r0 j hr hj))) = rowsOf (G a8) r0 j hr hj
  e9 : ∀ r0 hr, 32 ∣ r0 → ∀ a : FVec F S32x128 .f32, (∀ x, (x 1).val < 36 → a x = grpOf (G a14) r0 hr x) → sclVec a = sclOf (G a9) r0 hr
  e19 : isFirst n = 1#1 → ∀ k hk, slabVec (chunkOf (G a4) k hk) = slabOf (G a19) k hk
  e20 : isFirst n = 1#1 → ∀ k hk, slabVec (chunkOf (G a5) k hk) = slabOf (G a20) k hk
  e10 : isLast n = 1#1 → ∀ k hk, planeVec (planeOf (G a21) k hk) = outOf (G a10) k hk
  e11 : isLast n = 1#1 → ∀ k hk, planeVec (planeOf (G a22) k hk) = outOf (G a11) k hk

variable {nD : Nat} {τ : Topo} {sig : RefSig} {Ix : Type} [DecidableEq Ix] {Λ₀ : Labels}
variable {Name : Type} [DecidableEq Name] {U : Type} [URA U] {Lvl : Type} [Preorder Lvl]
variable {defs₀ : Defs nD τ sig (Elt F) Λ₀} {𝒱 : Variants} {c : Dev nD} {E : Set Name}
variable {R : Args sig} {C : S3.Idx → Elt F .f32} {G : St F} {D : Dom} {n : Nat} {hn : n < 144}

local notation "runs" => Runs (Ix := Ix) (U := U) (Lvl := Lvl) defs₀ 𝒱 c E R C G

theorem idx_mem_of {i : Buf'} {r : Rect (sh i)} {S : Set (sh i).Idx} (hS : {y | y ∈ r.set} ⊆ S) (h : single i S ≤ D) (x : r.shape.Idx) : r.idx x ∈ D i :=
  single_le.mp h (hS (r.idx_mem x))

/-- The places of a rectangle of a buffer. -/
abbrev spot (i : Buf') (r : Rect (sh i)) : Dom := single i {y | y ∈ r.set}

/-- Every place of a buffer. -/
abbrev full (i : Buf') : Dom := single i Set.univ

theorem spot_le_full (i : Buf') (r : Rect (sh i)) : spot i r ≤ full i := single_le.mpr fun _ _ => mem_single.mpr trivial

theorem Runs.load (i : Buf') (r : Rect (sh i)) (hr : 0 < r.shape.numel) (h : spot i r ≤ D) : runs D (K01.ld (R.M i) r hr) (fun x => G i (r.idx x)) D :=
  Runs.ld i r hr fun x => single_le.mp h (r.idx_mem x)

theorem Runs.store (i : Buf') (r : Rect (sh i)) (hr : 0 < r.shape.numel) (w : r.shape.Idx → Elt F (el i))
    (hs : ((R.M i).access r).Stores Finset.univ) (h : w = fun x => G i (r.idx x)) : runs D (K01.st (R.M i) r hr w hs) ⟨⟩ (D ⊔ spot i r) :=
  Runs.st i r hr w hs fun x => congrFun h x

def new1 (r0 : Nat) (hr : r0 ≤ 224) (j : Nat) (hj : j < 36) : Dom := spot a12 (rowsRect r0 j hr hj) ⊔ spot a13 (rowsRect r0 j hr hj)

theorem blk1_runs (H : StepEqs C G n hn) (r0 : Nat) (hr : r0 ≤ 224) (h32 : 32 ∣ r0) (j : Nat) (hj : j < 36) (h2 : full a2 ≤ D) (h3 : full a3 ≤ D) :
    runs D (blk1 R r0 hr h32 j hj) (rowsOf (G a13) r0 j hr hj) (D ⊔ new1 r0 hr j hj) := by
  refine Runs.bind (Runs.load a2 (rowsRect r0 j hr hj) _ ((spot_le_full _ _).trans h2)) ?_
  refine Runs.bind (Runs.load a3 (rowsRect r0 j hr hj) _ ((spot_le_full _ _).trans h3)) ?_
  refine Runs.bind (Runs.store a12 (rowsRect r0 j hr hj) _ _ _ (H.e12 r0 j hr hj)) ?_
  refine Runs.bind (Runs.store a13 (rowsRect r0 j hr hj) _ _ _ ((shapeCast_self _ _).trans (H.e13 r0 j hr hj))) ?_
  exact (Runs.pure _).cast (H.e13 r0 j hr hj) (sup_assoc _ _ _).ge

def newG1 (r0 : Nat) (hr : r0 ≤ 224) : Dom := upTo (new1 r0 hr) 36 le_rfl ⊔ spot a15 (grpRect r0 hr) ⊔ spot a16 (grpRect r0 hr)

theorem group1_runs (H : StepEqs C G n hn) (r0 : Nat) (hr : r0 ≤ 224) (h32 : 32 ∣ r0) (h2 : full a2 ≤ D) (h3 : full a3 ≤ D) :
    runs D (group1 R r0 hr h32) ⟨⟩ (D ⊔ newG1 r0 hr) := by
  unfold group1
  refine Runs.bind (Runs.sumBlks (blk := blk1 R r0 hr h32) (fun j hj => rowsOf (G a13) r0 j hr hj) (new1 r0 hr) (fun j hj D' hD => blk1_runs H r0 hr h32 j hj (h2.trans hD) (h3.trans hD)) 35 _) ?_
  refine Runs.bind (Runs.store a15 (grpRect r0 hr) _ _ _ ((shapeCast_self _ _).trans (H.e15 r0 hr h32))) ?_
  rw [H.e15 r0 hr h32]
  refine Runs.bind (Runs.sumBlks (blk := blk2 R r0 hr (grpOf (G a15) r0 hr)) (fun j hj => sqVec (rowsOf (G a13) r0 j hr hj) (grpOf (G a15) r0 hr)) (fun _ _ => ⊥) (fun j hj D' hD => ?_) 35 _) ?_
  · refine Runs.bind (Runs.load a13 (rowsRect r0 j hr hj) _ ?_) ((Runs.pure _).cast rfl (sup_bot_eq _).le)
    exact (((show spot a13 (rowsRect r0 j hr hj) ≤ new1 r0 hr j hj from le_sup_right).trans ((le_upTo (B := new1 r0 hr) hj 36 le_rfl hj).trans le_sup_right)).trans le_sup_left).trans hD
  · refine (Runs.store a16 (grpRect r0 hr) _ _ _ ((shapeCast_self _ _).trans (H.e16 r0 hr h32))).cast rfl ?_
    exact sup_le (le_sup_left.trans (le_sup_left.trans (le_sup_left.trans le_sup_left))) (sup_le (sup_le (le_sup_right.trans (le_sup_left.trans (le_sup_left.trans le_sup_left)))
      (le_sup_right.trans (le_sup_left.trans le_sup_left))) le_sup_right)

def new3 (r0 : Nat) (hr : r0 ≤ 224) (j : Nat) (hj : j < 36) : Dom := spot a14 (colRect r0 j hr hj) ⊔ spot a8 (rowsRect r0 j hr hj)

theorem blk3_runs (H : StepEqs C G n hn) (r0 : Nat) (hr : r0 ≤ 224) (h32 : 32 ∣ r0) (j : Nat) (hj : j < 36)
    (h13 : full a13 ≤ D) (h6 : full a6 ≤ D) (h7 : full a7 ≤ D) :
    runs D (blk3 R r0 hr h32 (grpOf (G a17) r0 hr) (grpOf (G a18) r0 hr) j hj) ⟨⟩ (D ⊔ new3 r0 hr j hj) := by
  refine Runs.bind (Runs.load a13 (rowsRect r0 j hr hj) _ ((spot_le_full _ _).trans h13)) ?_
  refine Runs.bind (Runs.load a6 (vecRect j hj) _ ((spot_le_full _ _).trans h6)) ?_
  refine Runs.bind (Runs.load a7 (vecRect j hj) _ ((spot_le_full _ _).trans h7)) ?_
  refine Runs.bind (Runs.store a14 (colRect r0 j hr hj) _ _ _ ((shapeCast_self _ _).trans (H.e14 r0 j hr hj h32))) ?_
  exact (Runs.store a8 (rowsRect r0 j hr hj) _ _ _ (H.e8 r0 j hr hj h32)).cast rfl (sup_assoc _ _ _).ge

def newG2 (r0 : Nat) (hr : r0 ≤ 224) : Dom := upTo (new3 r0 hr) 36 le_rfl ⊔ spot a9 (sclRect r0 hr)

theorem mem_colRect {r0 : Nat} {hr : r0 ≤ 224} (x : S32x128.Idx) (hx : (x 1).val < 36) :
    (grpRect r0 hr).idx x ∈ (colRect r0 (x 1).val hr hx).set := by
  refine (colRect r0 (x 1).val hr hx).mem_set.mpr fun a => ?_
  fin_cases a
  · exact ⟨(x 0).val, (x 0).isLt, rfl⟩
  · exact ⟨0, Nat.one_pos, by show 0 + 1 * (x 1).val = (x 1).val + 1 * 0; omega⟩

theorem group2_runs (H : StepEqs C G n hn) (r0 : Nat) (hr : r0 ≤ 224) (h32 : 32 ∣ r0)
    (h13 : full a13 ≤ D) (h6 : full a6 ≤ D) (h7 : full a7 ≤ D) (h17 : full a17 ≤ D) (h18 : full a18 ≤ D) :
    runs D (group2 R r0 hr h32) ⟨⟩ (D ⊔ newG2 r0 hr) := by
  refine Runs.bind (Runs.load a17 (grpRect r0 hr) _ ((spot_le_full _ _).trans h17)) ?_
  refine Runs.bind (Runs.load a18 (grpRect r0 hr) _ ((spot_le_full _ _).trans h18)) ?_
  refine Runs.bind (Runs.runBlks (blk := blk3 R r0 hr h32 (grpOf (G a17) r0 hr) (grpOf (G a18) r0 hr)) (new3 r0 hr) (fun j hj D' hD => blk3_runs H r0 hr h32 j hj (h13.trans hD) (h6.trans hD) (h7.trans hD)) 36 _) ?_
  refine Runs.ld_bind a14 (grpRect r0 hr) _ fun a ha => ?_
  refine (Runs.store a9 (sclRect r0 hr) _ _ _ (H.e9 r0 hr h32 a fun x hx => ha x ?_)).cast rfl (sup_assoc _ _ _).ge
  exact single_le.mp ((show spot a14 (colRect r0 (x 1).val hr hx) ≤ new3 r0 hr (x 1).val hx from le_sup_left).trans ((le_upTo (B := new3 r0 hr) hx 36 le_rfl hx).trans le_sup_right)) (mem_colRect x hx)

def newS (k : Nat) (hk : k < 24) : Dom := spot a19 (slabRect k hk) ⊔ spot a20 (slabRect k hk)

theorem stage_runs (H : StepEqs C G n hn) (h : isFirst n = 1#1) (k : Nat) (hk : k < 24) (h4 : full a4 ≤ D) (h5 : full a5 ≤ D) :
    runs D (stage R k hk) ⟨⟩ (D ⊔ newS k hk) := by
  refine Runs.bind (Runs.load a4 (chunkRect k hk) _ ((spot_le_full _ _).trans h4)) ?_
  refine Runs.bind (Runs.store a19 (slabRect k hk) _ _ _ (H.e19 h k hk)) ?_
  refine Runs.bind (Runs.load a5 (chunkRect k hk) _ ((spot_le_full _ _).trans (h5.trans le_sup_left))) ?_
  exact (Runs.store a20 (slabRect k hk) _ _ _ (H.e20 h k hk)).cast rfl (sup_assoc _ _ _).ge

def newU (k : Nat) (hk : k < 24) : Dom := spot a10 (outRect k hk) ⊔ spot a11 (outRect k hk)

theorem unstage_runs (H : StepEqs C G n hn) (h : isLast n = 1#1) (k : Nat) (hk : k < 24) (h21 : full a21 ≤ D) (h22 : full a22 ≤ D) :
    runs D (unstage R k hk) ⟨⟩ (D ⊔ newU k hk) := by
  refine Runs.bind (Runs.load a21 (planeRect k hk) _ ((spot_le_full _ _).trans h21)) ?_
  refine Runs.bind (Runs.store a10 (outRect k hk) _ _ _ (H.e10 h k hk)) ?_
  refine Runs.bind (Runs.load a22 (planeRect k hk) _ ((spot_le_full _ _).trans (h22.trans le_sup_left))) ?_
  exact (Runs.store a11 (outRect k hk) _ _ _ (H.e11 h k hk)).cast rfl (sup_assoc _ _ _).ge

def newT (r0 : Nat) (hr : r0 ≤ 128) (ck rw : Nat) (hc : ck < 24) (hw : rw < 12) : Dom :=
  spot a21 (mtRect ck rw hc hw) ⊔ (spot a22 (mtRect ck rw hc hw) ⊔ (spot a17 (tileRect r0 hr) ⊔ spot a18 (tileRect r0 hr)))

theorem tile_runs (r0 : Nat) (hr : r0 ≤ 128) (ck rw : Nat) (hc : ck < 24) (hw : rw < 12) (H : TileEqs C G r0 hr ck rw hc hw)
    (h19 : full a19 ≤ D) (h20 : full a20 ≤ D) :
    runs D (tile R r0 hr ck rw hc hw (meanLoc (tileOf (G a15) r0 hr)) (m2Loc (tileOf (G a16) r0 hr))) ⟨⟩ (D ⊔ newT r0 hr ck rw hc hw) := by
  have l19 : ∀ p hp, spot a19 (statRect p ck rw hp hc hw) ≤ D := fun p hp => (spot_le_full _ _).trans h19
  have l20 : ∀ p hp, spot a20 (statRect p ck rw hp hc hw) ≤ D := fun p hp => (spot_le_full _ _).trans h20
  refine Runs.bind (Runs.cnt 0 _) (Runs.bind (Runs.load a19 (statRect 0 ck rw _ hc hw) _ (l19 _ _)) (Runs.bind (Runs.load a20 (statRect 0 ck rw _ hc hw) _ (l20 _ _)) ?_))
  refine Runs.bind (Runs.cnt 1 _) (Runs.bind (Runs.load a19 (statRect 1 ck rw _ hc hw) _ (l19 _ _)) (Runs.bind (Runs.load a20 (statRect 1 ck rw _ hc hw) _ (l20 _ _)) ?_))
  refine Runs.bind (Runs.cnt 2 _) (Runs.bind (Runs.load a19 (statRect 2 ck rw _ hc hw) _ (l19 _ _)) (Runs.bind (Runs.load a20 (statRect 2 ck rw _ hc hw) _ (l20 _ _)) ?_))
  refine Runs.bind (Runs.store a21 (mtRect ck rw hc hw) _ _ _ H.e21) ?_
  refine Runs.bind (Runs.store a22 (mtRect ck rw hc hw) _ _ _ H.e22) ?_
  refine Runs.bind (Runs.store a17 (tileRect r0 hr) _ _ _ H.e17) ?_
  refine (Runs.store a18 (tileRect r0 hr) _ _ _ H.e18).cast rfl ?_
  unfold newT
  simp only [sup_assoc, le_refl]

/-! ## Coverage -/

def allG1 : Dom := upTo (fun k hk => newG1 (rowOff k) (rowOff_le ⟨k, hk⟩)) loop8.trips le_rfl
def allG2 : Dom := upTo (fun k hk => newG2 (rowOff k) (rowOff_le ⟨k, hk⟩)) loop8.trips le_rfl

theorem lt_trips {a : Nat} (h : a < 256) : a / 32 < loop8.trips := by rw [loop8_trips]; omega
theorem rowOff_div {a : Nat} (h : a < 256) : rowOff (a / 32) = 32 * (a / 32) := rowOff_eq ⟨a / 32, by omega⟩

theorem mem_rows (y : S256x4608.Idx) (hr : rowOff ((y 0).val / 32) ≤ 224) (hj : (y 1).val / 128 < 36) :
    y ∈ (rowsRect (rowOff ((y 0).val / 32)) ((y 1).val / 128) hr hj).set := by
  have h0 : (y 0).val < 256 := (y 0).isLt
  refine (rowsRect _ _ hr hj).mem_set.mpr fun a => ?_
  fin_cases a
  · exact ⟨(y 0).val % 32, Nat.mod_lt _ (by decide), by show (y 0).val = rowOff _ + 1 * _; rw [rowOff_div h0]; omega⟩
  · exact ⟨(y 1).val % 128, Nat.mod_lt _ (by decide), by show (y 1).val = 128 * _ + 1 * _; omega⟩

theorem mem_grp (y : S256x128.Idx) (hr : rowOff ((y 0).val / 32) ≤ 224) : y ∈ (grpRect (rowOff ((y 0).val / 32)) hr).set := by
  have h0 : (y 0).val < 256 := (y 0).isLt
  refine (grpRect _ hr).mem_set.mpr fun a => ?_
  fin_cases a
  · exact ⟨(y 0).val % 32, Nat.mod_lt _ (by decide), by show (y 0).val = rowOff _ + 1 * _; rw [rowOff_div h0]; omega⟩
  · exact ⟨(y 1).val, (y 1).isLt, by show (y 1).val = 0 + 1 * _; omega⟩

theorem mem_scl (y : S256x36.Idx) (hr : rowOff ((y 0).val / 32) ≤ 224) : y ∈ (sclRect (rowOff ((y 0).val / 32)) hr).set := by
  have h0 : (y 0).val < 256 := (y 0).isLt
  refine (sclRect _ hr).mem_set.mpr fun a => ?_
  fin_cases a
  · exact ⟨(y 0).val % 32, Nat.mod_lt _ (by decide), by show (y 0).val = rowOff _ + 1 * _; rw [rowOff_div h0]; omega⟩
  · exact ⟨(y 1).val, (y 1).isLt, by show (y 1).val = 0 + 1 * _; omega⟩

theorem col_lt (y : S256x4608.Idx) : (y 1).val / 128 < 36 := by have : (y 1).val < 4608 := (y 1).isLt; omega

theorem full_le {i : Buf'} {D : Dom} (h : ∀ y : (sh i).Idx, ∃ r : Rect (sh i), y ∈ r.set ∧ spot i r ≤ D) : full i ≤ D :=
  single_le.mpr fun y _ => by obtain ⟨r, hy, hr⟩ := h y; exact single_le.mp hr hy

theorem g1_le {k : Nat} (hk : k < loop8.trips) : newG1 (rowOff k) (rowOff_le ⟨k, hk⟩) ≤ allG1 :=
  le_upTo (B := fun k hk => newG1 (rowOff k) (rowOff_le ⟨k, hk⟩)) hk _ le_rfl hk
theorem g2_le {k : Nat} (hk : k < loop8.trips) : newG2 (rowOff k) (rowOff_le ⟨k, hk⟩) ≤ allG2 :=
  le_upTo (B := fun k hk => newG2 (rowOff k) (rowOff_le ⟨k, hk⟩)) hk _ le_rfl hk

theorem new1_le (r0 : Nat) (hr : r0 ≤ 224) {j : Nat} (hj : j < 36) : new1 r0 hr j hj ≤ newG1 r0 hr :=
  ((le_upTo (B := new1 r0 hr) hj 36 le_rfl hj).trans le_sup_left).trans le_sup_left
theorem new3_le (r0 : Nat) (hr : r0 ≤ 224) {j : Nat} (hj : j < 36) : new3 r0 hr j hj ≤ newG2 r0 hr :=
  (le_upTo (B := new3 r0 hr) hj 36 le_rfl hj).trans le_sup_left

theorem cov12 : full a12 ≤ allG1 := full_le fun y =>
  ⟨_, mem_rows y (rowOff_le ⟨_, lt_trips (y 0).isLt⟩) (col_lt y), (le_sup_left.trans (new1_le _ _ _)).trans (g1_le (lt_trips (y 0).isLt))⟩
theorem cov13 : full a13 ≤ allG1 := full_le fun y =>
  ⟨_, mem_rows y (rowOff_le ⟨_, lt_trips (y 0).isLt⟩) (col_lt y), (le_sup_right.trans (new1_le _ _ _)).trans (g1_le (lt_trips (y 0).isLt))⟩
theorem cov15 : full a15 ≤ allG1 := full_le fun y =>
  ⟨_, mem_grp y (rowOff_le ⟨_, lt_trips (y 0).isLt⟩), ((le_sup_right (a := upTo _ _ _)).trans le_sup_left).trans (g1_le (lt_trips (y 0).isLt))⟩
theorem cov16 : full a16 ≤ allG1 := full_le fun y =>
  ⟨_, mem_grp y (rowOff_le ⟨_, lt_trips (y 0).isLt⟩), le_sup_right.trans (g1_le (lt_trips (y 0).isLt))⟩
theorem cov8 : full a8 ≤ allG2 := full_le fun y =>
  ⟨_, mem_rows y (rowOff_le ⟨_, lt_trips (y 0).isLt⟩) (col_lt y), (le_sup_right.trans (new3_le _ _ _)).trans (g2_le (lt_trips (y 0).isLt))⟩
theorem cov9 : full a9 ≤ allG2 := full_le fun y =>
  ⟨_, mem_scl y (rowOff_le ⟨_, lt_trips (y 0).isLt⟩), le_sup_right.trans (g2_le (lt_trips (y 0).isLt))⟩

def allS : Dom := upTo newS 24 le_rfl
def allU : Dom := upTo newU 24 le_rfl

theorem mem_slab (y : S3x24x12x128.Idx) : y ∈ (slabRect (y 1).val (y 1).isLt).set := by
  refine (slabRect _ (y 1).isLt).mem_set.mpr fun a => ?_
  fin_cases a
  · exact ⟨(y 0).val, (y 0).isLt, by show (y 0).val = 0 + 1 * _; omega⟩
  · exact ⟨0, Nat.one_pos, by show (y 1).val = (y 1).val + 1 * 0; omega⟩
  · exact ⟨(y 2).val, (y 2).isLt, by show (y 2).val = 0 + 1 * _; omega⟩
  · exact ⟨(y 3).val, (y 3).isLt, by show (y 3).val = 0 + 1 * _; omega⟩

theorem mem_out (y : S12x3072.Idx) (h : (y 1).val / 128 < 24) : y ∈ (outRect ((y 1).val / 128) h).set := by
  refine (outRect _ h).mem_set.mpr fun a => ?_
  fin_cases a
  · exact ⟨(y 0).val, (y 0).isLt, by show (y 0).val = 0 + 1 * _; omega⟩
  · exact ⟨(y 1).val % 128, Nat.mod_lt _ (by decide), by show (y 1).val = 128 * _ + 1 * _; omega⟩

theorem out_lt (y : S12x3072.Idx) : (y 1).val / 128 < 24 := by have : (y 1).val < 3072 := (y 1).isLt; omega

theorem cov19 : full a19 ≤ allS := full_le fun y => ⟨_, mem_slab y, le_sup_left.trans (le_upTo (B := newS) (y 1).isLt 24 le_rfl (y 1).isLt)⟩
theorem cov20 : full a20 ≤ allS := full_le fun y => ⟨_, mem_slab y, le_sup_right.trans (le_upTo (B := newS) (y 1).isLt 24 le_rfl (y 1).isLt)⟩
theorem cov10 : full a10 ≤ allU := full_le fun y => ⟨_, mem_out y (out_lt y), le_sup_left.trans (le_upTo (B := newU) (out_lt y) 24 le_rfl (out_lt y))⟩
theorem cov11 : full a11 ≤ allU := full_le fun y => ⟨_, mem_out y (out_lt y), le_sup_right.trans (le_upTo (B := newU) (out_lt y) 24 le_rfl (out_lt y))⟩

theorem mem_tile (y : S256x128.Idx) : (y ∈ (tileRect 0 (by decide)).set) ∨ y ∈ (tileRect 128 (by decide)).set := by
  have h0 : (y 0).val < 256 := (y 0).isLt
  have key : ∀ r0 (hr : r0 ≤ 128), r0 ≤ (y 0).val → (y 0).val < r0 + 128 → y ∈ (tileRect r0 hr).set := fun r0 hr h h' => by
    refine (tileRect _ hr).mem_set.mpr fun a => ?_
    fin_cases a
    · exact ⟨(y 0).val - r0, by show _ < 128; omega, by show (y 0).val = r0 + 1 * _; omega⟩
    · exact ⟨(y 1).val, (y 1).isLt, by show (y 1).val = 0 + 1 * _; omega⟩
  by_cases h : (y 0).val < 128
  · exact .inl (key 0 _ (by omega) (by omega))
  · exact .inr (key 128 _ (by omega) (by omega))

/-! ## The grid point -/

/-- What the two tiles write. -/
def newT0 (n : Nat) (hn : n < 144) : Dom := newT 0 (by decide) (chunkAt n 0#32) (rowAt n) (chunkAt_lt hn 0) (rowAt_lt hn)
def newT1 (n : Nat) (hn : n < 144) : Dom := newT 128 (by decide) (chunkAt n 1#32) (rowAt n) (chunkAt_lt hn 1) (rowAt_lt hn)

theorem cov17 (n : Nat) (hn : n < 144) : full a17 ≤ newT0 n hn ⊔ newT1 n hn := full_le fun y => (mem_tile y).elim
  (fun h => ⟨_, h, ((le_sup_left.trans le_sup_right).trans le_sup_right).trans (le_sup_left (a := newT0 n hn))⟩)
  (fun h => ⟨_, h, ((le_sup_left.trans le_sup_right).trans le_sup_right).trans (le_sup_right (b := newT1 n hn))⟩)
theorem cov18 (n : Nat) (hn : n < 144) : full a18 ≤ newT0 n hn ⊔ newT1 n hn := full_le fun y => (mem_tile y).elim
  (fun h => ⟨_, h, ((le_sup_right.trans le_sup_right).trans le_sup_right).trans (le_sup_left (a := newT0 n hn))⟩)
  (fun h => ⟨_, h, ((le_sup_right.trans le_sup_right).trans le_sup_right).trans (le_sup_right (b := newT1 n hn))⟩)

theorem stats_runs (H : StepEqs C G n hn) (h2 : full a2 ≤ D) (h3 : full a3 ≤ D) :
    runs D (stats R n) (frontOf n (meanLoc (tileOf (G a15) 0 (by decide))) (m2Loc (tileOf (G a16) 0 (by decide)))) (D ⊔ allG1) := by
  unfold stats
  refine Runs.bind (Runs.for loop8 _ _ (fun k hk => newG1 (rowOff k) (rowOff_le ⟨k, hk⟩)) (fun k D' hD => group1_runs H _ _ _ (h2.trans hD) (h3.trans hD))) ?_
  refine Runs.bind (Runs.load a15 (tileRect 0 _) _ ((spot_le_full _ _).trans (cov15.trans le_sup_right))) ?_
  refine Runs.bind (Runs.load a16 (tileRect 0 _) _ ((spot_le_full _ _).trans (cov16.trans le_sup_right))) ?_
  exact Runs.pure _

/-- What is held before a grid point. -/
structure Pre (D : Dom) (n : Nat) (hn : n < 144) : Prop where
  f2 : full a2 ≤ D
  f3 : full a3 ≤ D
  f4 : full a4 ≤ D
  f5 : full a5 ≤ D
  f6 : full a6 ≤ D
  f7 : full a7 ≤ D
  f19 : ¬isFirst n = 1#1 → full a19 ≤ D
  f20 : ¬isFirst n = 1#1 → full a20 ≤ D
  f21 : isLast n = 1#1 → full a21 ≤ D ⊔ (newT0 n hn ⊔ newT1 n hn)
  f22 : isLast n = 1#1 → full a22 ≤ D ⊔ (newT0 n hn ⊔ newT1 n hn)

theorem front_runs (H : StepEqs C G n hn) (P : Pre D n hn) :
    runs D (front R n) (frontOf n (meanLoc (tileOf (G a15) 0 (by decide))) (m2Loc (tileOf (G a16) 0 (by decide)))) (D ⊔ full a19 ⊔ full a20 ⊔ allG1) := by
  unfold front
  refine Runs.dite (fun h => ?_) (fun h => ?_)
  · refine Runs.bind (Runs.runBlks (blk := stage R) newS (fun k hk D' hD => stage_runs H h k hk (P.f4.trans hD) (P.f5.trans hD)) 24 _) ?_
    refine (stats_runs H (P.f2.trans le_sup_left) (P.f3.trans le_sup_left)).cast rfl ?_
    exact sup_le_sup_right (sup_le (sup_le le_sup_left (cov19.trans le_sup_right)) (cov20.trans le_sup_right)) _
  · refine (stats_runs H P.f2 P.f3).cast rfl ?_
    exact sup_le_sup_right (sup_le (sup_le le_rfl (P.f19 h)) (P.f20 h)) _

/-- What is held after the two tiles. -/
def afterTiles (D : Dom) (n : Nat) (hn : n < 144) : Dom := D ⊔ full a19 ⊔ full a20 ⊔ allG1 ⊔ newT0 n hn ⊔ newT1 n hn

theorem afterTiles_base (D : Dom) (n : Nat) (hn : n < 144) : D ⊔ full a19 ⊔ full a20 ⊔ allG1 ≤ afterTiles D n hn := le_sup_left.trans le_sup_left
theorem afterTiles_D (D : Dom) (n : Nat) (hn : n < 144) : D ≤ afterTiles D n hn :=
  (le_sup_left.trans (le_sup_left.trans le_sup_left)).trans (afterTiles_base D n hn)
theorem afterTiles_T (D : Dom) (n : Nat) (hn : n < 144) : newT0 n hn ⊔ newT1 n hn ≤ afterTiles D n hn :=
  sup_le (le_sup_right.trans le_sup_left) le_sup_right

theorem core_runs (H : StepEqs C G n hn) (P : Pre D n hn) :
    runs D (core R n hn) (Scalar.extui (Scalar.cmpi .eq (BitVec.ofNat 32 n) 143#32)) (afterTiles D n hn ⊔ allG2) := by
  unfold core
  refine Runs.bind (front_runs H P) ?_
  refine Runs.bind (tile_runs 0 (by decide) (chunkAt n 0#32) (rowAt n) _ _ H.t0 ?_ ?_) ?_
  · exact (le_sup_right.trans le_sup_left).trans le_sup_left
  · exact le_sup_right.trans le_sup_left
  refine Runs.bind (Runs.load a15 (tileRect 128 _) _ ((spot_le_full _ _).trans (cov15.trans (le_sup_right.trans le_sup_left)))) ?_
  refine Runs.bind (Runs.load a16 (tileRect 128 _) _ ((spot_le_full _ _).trans (cov16.trans (le_sup_right.trans le_sup_left)))) ?_
  refine Runs.bind (tile_runs 128 (by decide) (chunkAt n 1#32) (rowAt n) _ _ H.t1 ?_ ?_) ?_
  · exact ((le_sup_right.trans le_sup_left).trans le_sup_left).trans le_sup_left
  · exact (le_sup_right.trans le_sup_left).trans le_sup_left
  show runs (afterTiles D n hn) _ _ _
  have hT := afterTiles_T D n hn
  have hD := afterTiles_D D n hn
  have h13 : full a13 ≤ afterTiles D n hn := cov13.trans (le_sup_right.trans (afterTiles_base D n hn))
  refine Runs.bind (Runs.for loop8 _ _ (fun k hk => newG2 (rowOff k) (rowOff_le ⟨k, hk⟩)) (fun k D' hD' => group2_runs H _ _ _ (h13.trans hD')
    (P.f6.trans (hD.trans hD')) (P.f7.trans (hD.trans hD')) (((cov17 n hn).trans hT).trans hD') (((cov18 n hn).trans hT).trans hD'))) ?_
  exact Runs.pure _

/-- What is held after a grid point. -/
def post (D : Dom) (n : Nat) (hn : n < 144) : Dom :=
  afterTiles D n hn ⊔ allG2 ⊔ (if isLast n = 1#1 then allU else ⊥)

/-- The body's run at one grid point. -/
theorem body_runs (H : StepEqs C G n hn) (P : Pre D n hn) : runs D (body R n hn) ⟨⟩ (post D n hn) := by
  unfold body post
  refine Runs.bind (core_runs H P) ?_
  have hT := afterTiles_T D n hn
  have hD := afterTiles_D D n hn
  refine Runs.dite (fun h => ?_) (fun h => ?_)
  · rw [if_pos h]
    exact Runs.runBlks (blk := unstage R) newU (fun k hk D' hD' => unstage_runs H h k hk
      ((P.f21 h).trans ((sup_le hD hT).trans (le_sup_left.trans hD'))) ((P.f22 h).trans ((sup_le hD hT).trans (le_sup_left.trans hD')))) 24 _
  · rw [if_neg h]
    exact (Runs.pure _).cast rfl (sup_bot_eq _).le

end K01
-- ==== Proof.Contents.lean ====
/-
  The contents of every buffer at a grid point, as functions of the operands alone, and that they satisfy the
  kernel's equations.
-/
module

public import proofs.«01_k».proof.Proof.Spec
public import Idealize.ShloMosaic.Lib.PointwiseCore

@[expose] public section

noncomputable section

namespace K01

open Idealize.ShloMosaic
open Buf'

variable {α : Type}

/-! ## Arrays put together from their parts -/

theorem grp_le {a : Nat} (h : a < 256) : 32 * (a / 32) ≤ 224 := by omega
theorem blk_lt {a : Nat} (h : a < 4608) : a / 128 < 36 := by omega
def inGrp (a : Nat) : Fin 32 := ⟨a % 32, Nat.mod_lt _ (by decide)⟩
def inBlk (a : Nat) : Fin 128 := ⟨a % 128, Nat.mod_lt _ (by decide)⟩

def glueRows (f : ∀ r0 j, r0 ≤ 224 → j < 36 → S32x128.Idx → α) : S256x4608.Idx → α := fun y =>
  f (32 * ((y 0).val / 32)) ((y 1).val / 128) (grp_le (y 0).isLt) (blk_lt (y 1).isLt) (ix2 (inGrp (y 0).val) (inBlk (y 1).val))

def glueGrp (f : ∀ r0, r0 ≤ 224 → S32x128.Idx → α) : S256x128.Idx → α := fun y =>
  f (32 * ((y 0).val / 32)) (grp_le (y 0).isLt) (ix2 (inGrp (y 0).val) (y 1))

def glueScl (f : ∀ r0, r0 ≤ 224 → S32x36.Idx → α) : S256x36.Idx → α := fun y =>
  f (32 * ((y 0).val / 32)) (grp_le (y 0).isLt) (ix2 (inGrp (y 0).val) (y 1))

def glueCol (d : α) (f : ∀ r0 j, r0 ≤ 224 → j < 36 → S32x1.Idx → α) : S256x128.Idx → α := fun y =>
  if h : (y 1).val < 36 then f (32 * ((y 0).val / 32)) (y 1).val (grp_le (y 0).isLt) h (ix2 (inGrp (y 0).val) (0 : Fin 1)) else d

def glueTile (f g : S128x128.Idx → α) : S256x128.Idx → α := fun y =>
  if (y 0).val < 128 then f (ix2 (inBlk (y 0).val) (y 1)) else g (ix2 (inBlk (y 0).val) (y 1))

def glueSlab (f : ∀ k, k < 24 → S3x1x12x128.Idx → α) : S3x24x12x128.Idx → α := fun y => f (y 1).val (y 1).isLt (ix4 (y 0) (0 : Fin 1) (y 2) (y 3))

def glueOut (f : ∀ k, k < 24 → S12x128.Idx → α) : S12x3072.Idx → α := fun y =>
  f ((y 1).val / 128) (out_lt y) (ix2 (y 0) (inBlk (y 1).val))

def glueMt (f : ∀ ck rw, ck < 24 → rw < 12 → S1x1x128.Idx → α) : S24x12x128.Idx → α := fun y =>
  f (y 0).val (y 1).val (y 0).isLt (y 1).isLt (ix3 (0 : Fin 1) (0 : Fin 1) (y 2))

theorem f_congr2 {f : ∀ r0 j, r0 ≤ 224 → j < 36 → S32x128.Idx → α} {r r' j j' : Nat} {hr hr' hj hj'} {x x' : S32x128.Idx}
    (h : r = r') (h' : j = j') (h'' : x = x') : f r j hr hj x = f r' j' hr' hj' x' := by subst h h' h''; rfl

theorem rowsOf_glue (f : ∀ r0 j, r0 ≤ 224 → j < 36 → S32x128.Idx → α) (r0 j : Nat) (hr : r0 ≤ 224) (hj : j < 36) (h32 : 32 ∣ r0) :
    rowsOf (glueRows f) r0 j hr hj = f r0 j hr hj := by
  obtain ⟨k, rfl⟩ := h32
  funext x
  have h0 : (x 0).val < 32 := (x 0).isLt
  have h1 : (x 1).val < 128 := (x 1).isLt
  unfold rowsOf glueRows
  refine f_congr2 (f := f) ?_ ?_ ?_
  · show 32 * ((32 * k + 1 * (x 0).val) / 32) = 32 * k; omega
  · show (128 * j + 1 * (x 1).val) / 128 = j; omega
  · rw [eq_ix2 x]
    refine (ix2_inj _ _ _ _).mpr ⟨Fin.ext ?_, Fin.ext ?_⟩
    · show (32 * k + 1 * (x 0).val) % 32 = (x 0).val; omega
    · show (128 * j + 1 * (x 1).val) % 128 = (x 1).val; omega

theorem grpOf_glue (f : ∀ r0, r0 ≤ 224 → S32x128.Idx → α) (r0 : Nat) (hr : r0 ≤ 224) (h32 : 32 ∣ r0) : grpOf (glueGrp f) r0 hr = f r0 hr := by
  obtain ⟨k, rfl⟩ := h32
  funext x
  have h0 : (x 0).val < 32 := (x 0).isLt
  unfold grpOf glueGrp
  refine f_congr2 (f := fun r0 _ hr _ => f r0 hr) (j := 0) (j' := 0) (hj := by decide) (hj' := by decide) ?_ rfl ?_
  · show 32 * ((32 * k + 1 * (x 0).val) / 32) = 32 * k; omega
  · rw [eq_ix2 x]
    refine (ix2_inj _ _ _ _).mpr ⟨Fin.ext ?_, Fin.ext ?_⟩
    · show (32 * k + 1 * (x 0).val) % 32 = (x 0).val; omega
    · show 0 + 1 * (x 1).val = (x 1).val; omega

theorem sclOf_glue (f : ∀ r0, r0 ≤ 224 → S32x36.Idx → α) (r0 : Nat) (hr : r0 ≤ 224) (h32 : 32 ∣ r0) : sclOf (glueScl f) r0 hr = f r0 hr := by
  obtain ⟨k, rfl⟩ := h32
  funext x
  have h0 : (x 0).val < 32 := (x 0).isLt
  have key : ∀ r (hr' : r ≤ 224) (z : S32x36.Idx), r = 32 * k → z = x → f r hr' z = f (32 * k) hr x := by
    intro r hr' z h h'; subst h h'; rfl
  refine key _ _ _ ?_ ?_
  · show 32 * ((32 * k + 1 * (x 0).val) / 32) = 32 * k; omega
  · rw [eq_ix2 x]
    refine (ix2_inj _ _ _ _).mpr ⟨Fin.ext ?_, Fin.ext ?_⟩
    · show (32 * k + 1 * (x 0).val) % 32 = (x 0).val; omega
    · show 0 + 1 * (x 1).val = (x 1).val; omega

theorem colOf_glue (d : α) (f : ∀ r0 j, r0 ≤ 224 → j < 36 → S32x1.Idx → α) (r0 j : Nat) (hr : r0 ≤ 224) (hj : j < 36) (h32 : 32 ∣ r0) :
    colOf (glueCol d f) r0 j hr hj = f r0 j hr hj := by
  obtain ⟨k, rfl⟩ := h32
  funext x
  have h0 : (x 0).val < 32 := (x 0).isLt
  have h1 : (x 1).val < 1 := (x 1).isLt
  have e1 : (((colRect (32 * k) j hr hj).idx x) 1).val = j := by show j + 1 * (x 1).val = j; omega
  have key : ∀ r j' (hr' : r ≤ 224) (hj' : j' < 36) (z : S32x1.Idx), r = 32 * k → j' = j → z = x → f r j' hr' hj' z = f (32 * k) j hr hj x := by
    intro r j' hr' hj' z h h' h''; subst h h' h''; rfl
  unfold colOf glueCol
  rw [dif_pos (by rw [e1]; exact hj)]
  refine key _ _ _ _ _ ?_ e1 ?_
  · show 32 * ((32 * k + 1 * (x 0).val) / 32) = 32 * k; omega
  · rw [eq_ix2 x]
    refine (ix2_inj _ _ _ _).mpr ⟨Fin.ext ?_, Fin.ext ?_⟩
    · show (32 * k + 1 * (x 0).val) % 32 = (x 0).val; omega
    · show 0 = (x 1).val; omega

theorem tileOf_glue0 (f g : S128x128.Idx → α) : tileOf (glueTile f g) 0 (by decide) = f := by
  funext x
  have h0 : (x 0).val < 128 := (x 0).isLt
  unfold tileOf glueTile
  rw [if_pos (by show 0 + 1 * (x 0).val < 128; omega)]
  refine congrArg f ?_
  conv_rhs => rw [eq_ix2 x]
  refine (ix2_inj _ _ _ _).mpr ⟨Fin.ext ?_, Fin.ext ?_⟩
  · show (0 + 1 * (x 0).val) % 128 = (x 0).val; omega
  · show 0 + 1 * (x 1).val = (x 1).val; omega

theorem tileOf_glue1 (f g : S128x128.Idx → α) : tileOf (glueTile f g) 128 (by decide) = g := by
  funext x
  have h0 : (x 0).val < 128 := (x 0).isLt
  unfold tileOf glueTile
  rw [if_neg (by show ¬(128 + 1 * (x 0).val < 128); omega)]
  refine congrArg g ?_
  conv_rhs => rw [eq_ix2 x]
  refine (ix2_inj _ _ _ _).mpr ⟨Fin.ext ?_, Fin.ext ?_⟩
  · show (128 + 1 * (x 0).val) % 128 = (x 0).val; omega
  · show 0 + 1 * (x 1).val = (x 1).val; omega

theorem slabOf_glue (f : ∀ k, k < 24 → S3x1x12x128.Idx → α) (k : Nat) (hk : k < 24) : slabOf (glueSlab f) k hk = f k hk := by
  funext x
  have h1 : (x 1).val < 1 := (x 1).isLt
  have key : ∀ k' (hk' : k' < 24) (z : S3x1x12x128.Idx), k' = k → z = x → f k' hk' z = f k hk x := by
    intro k' hk' z h h'; subst h h'; rfl
  refine key _ _ _ ?_ ?_
  · show k + 1 * (x 1).val = k; omega
  · rw [eq_ix4 x]
    funext a
    fin_cases a
    · exact Fin.ext (by show 0 + 1 * (x 0).val = (x 0).val; omega)
    · exact Fin.ext (by show 0 = (x 1).val; omega)
    · exact Fin.ext (by show 0 + 1 * (x 2).val = (x 2).val; omega)
    · exact Fin.ext (by show 0 + 1 * (x 3).val = (x 3).val; omega)

theorem outOf_glue (f : ∀ k, k < 24 → S12x128.Idx → α) (k : Nat) (hk : k < 24) : outOf (glueOut f) k hk = f k hk := by
  funext x
  have h1 : (x 1).val < 128 := (x 1).isLt
  have key : ∀ k' (hk' : k' < 24) (z : S12x128.Idx), k' = k → z = x → f k' hk' z = f k hk x := by
    intro k' hk' z h h'; subst h h'; rfl
  refine key _ _ _ ?_ ?_
  · show (128 * k + 1 * (x 1).val) / 128 = k; omega
  · rw [eq_ix2 x]
    refine (ix2_inj _ _ _ _).mpr ⟨Fin.ext ?_, Fin.ext ?_⟩
    · show 0 + 1 * (x 0).val = (x 0).val; omega
    · show (128 * k + 1 * (x 1).val) % 128 = (x 1).val; omega

theorem mtOf_glue (f : ∀ ck rw, ck < 24 → rw < 12 → S1x1x128.Idx → α) (ck rw : Nat) (hc : ck < 24) (hr : rw < 12) : mtOf (glueMt f) ck rw hc hr = f ck rw hc hr := by
  funext x
  have h0 : (x 0).val < 1 := (x 0).isLt
  have h1 : (x 1).val < 1 := (x 1).isLt
  have key : ∀ ck' rw' (hc' : ck' < 24) (hr' : rw' < 12) (z : S1x1x128.Idx), ck' = ck → rw' = rw → z = x → f ck' rw' hc' hr' z = f ck rw hc hr x := by
    intro ck' rw' hc' hr' z h h' h''; subst h h' h''; rfl
  refine key _ _ _ _ _ ?_ ?_ ?_
  · show ck + 1 * (x 0).val = ck; omega
  · show rw + 1 * (x 1).val = rw; omega
  · rw [eq_ix3 x]
    funext a
    fin_cases a
    · exact Fin.ext (by show 0 = (x 0).val; omega)
    · exact Fin.ext (by show 0 = (x 1).val; omega)
    · exact Fin.ext (by show 0 + 1 * (x 2).val = (x 2).val; omega)

/-! ## The contents -/

variable {F : FTy → Type} [FloatOps F]

/-- One step of the search for an exponent field, on numbers. -/
def fieldStepS (v : F .f32) (c f : BitVec 32) : BitVec 32 :=
  Scalar.select (FloatOps.cmpf .oge v (FloatOps.ofBits .f32 (IntOp.shli ArithUnit.vector (IntOp.addi f c) 23#32))) (IntOp.addi f c) f

/-- The exponent field of a scale, on numbers. -/
def fieldS (v : F .f32) : BitVec 32 :=
  Scalar.select (FloatOps.cmpf .oeq v (FloatOps.ofBits .f32 0x00000000#32)) 127#32
    (IntOp.addi (IntOp.minsi (fieldStepS v 1#32 (fieldStepS v 2#32 (fieldStepS v 4#32 (fieldStepS v 8#32 (fieldStepS v 16#32 (fieldStepS v 32#32
      (fieldStepS v 64#32 (fieldStepS v 128#32 0#32)))))))) 246#32) 1#32)

/-- The scale of a block whose largest magnitude is `a`. -/
def scaleS (a : F .f32) : F .f32 :=
  FloatOps.ofBits .f32 (IntOp.shli ArithUnit.vector (fieldS (FloatOps.mulf a (FloatOps.ofBits .f32 0x3B124925#32))) 23#32)

theorem fieldStep_apply {s : Shape} (v : FVec F s .f32) (c : BitVec 32) (f : IVec s 32) (i : s.Idx) : fieldStep v c f i = fieldStepS (v i) c (f i) := rfl

theorem fieldVec_apply {s : Shape} (v : FVec F s .f32) (i : s.Idx) : fieldVec v i = fieldS (v i) := by
  unfold fieldS
  have e := fun c f => fieldStep_apply v c f i
  rw [← show (broadcast s 0#32 : IVec s 32) i = 0#32 from rfl]
  rw [← e, ← e, ← e, ← e, ← e, ← e, ← e, ← e]
  rfl

theorem scale_apply {s : Shape} (a : FVec F s .f32) (i : s.Idx) : bitsVec (fieldVec (scaledMax a)) i = scaleS (a i) := by
  unfold scaleS
  rw [← show scaledMax a i = FloatOps.mulf (a i) (FloatOps.ofBits .f32 0x3B124925#32) from rfl, ← fieldVec_apply]
  rfl

/-- The operands as the kernel is launched on them: the two row operands by grid point. -/
structure Ops (F : FTy → Type) where
  C : S3.Idx → Elt F .f32
  x : ∀ n, n < 144 → FVec F S256x4608 .bf16
  r : ∀ n, n < 144 → FVec F S256x4608 .bf16
  pm : FVec F S3x12x3072 .f32
  p2 : FVec F S3x12x3072 .f32
  g : FVec F S1x4608 .f32
  b : FVec F S1x4608 .f32

namespace Ops

variable (d : Ops F)

def h (n : Nat) (hn : n < 144) : FVec F S256x4608 .bf16 := addf (d.x n hn) (d.r n hn)
def hf (n : Nat) (hn : n < 144) : FVec F S256x4608 .f32 := extf .f32 (d.h n hn) (by decide)
def s1 (n : Nat) (hn : n < 144) : FVec F S256x128 .f32 := glueGrp fun r0 hr => meanVec (accum (fun j hj => rowsOf (d.hf n hn) r0 j hr hj) 35 (by decide))
def s2 (n : Nat) (hn : n < 144) : FVec F S256x128 .f32 :=
  glueGrp fun r0 hr => accum (fun j hj => sqVec (rowsOf (d.hf n hn) r0 j hr hj) (grpOf (d.s1 n hn) r0 hr)) 35 (by decide)
def pmT : FVec F S3x24x12x128 .f32 := glueSlab fun k hk => slabVec (chunkOf d.pm k hk)
def p2T : FVec F S3x24x12x128 .f32 := glueSlab fun k hk => slabVec (chunkOf d.p2 k hk)

/-- The merged means of the tile of chunk `ck` of row `rw`, computed at grid point `n` from its rows `r0 …`. -/
def mTile (n : Nat) (hn : n < 144) (r0 : Nat) (hr : r0 ≤ 128) (ck rw : Nat) (hc : ck < 24) (hw : rw < 12) : FVec F S1x128 .f32 :=
  meanAt d.C d.pmT ck rw hc hw (meanLoc (tileOf (d.s1 n hn) r0 hr))
def rTile (n : Nat) (hn : n < 144) (r0 : Nat) (hr : r0 ≤ 128) (ck rw : Nat) (hc : ck < 24) (hw : rw < 12) : FVec F S1x128 .f32 :=
  rstdAt d.C d.pmT d.p2T ck rw hc hw (meanLoc (tileOf (d.s1 n hn) r0 hr)) (m2Loc (tileOf (d.s2 n hn) r0 hr))

theorem pt_lt {ck rw : Nat} (hc : ck < 24) (hw : rw < 12) : 12 * rw + ck / 2 < 144 := by omega
theorem tl_le (ck : Nat) : 128 * (ck % 2) ≤ 128 := by omega

/-- All merged means, by chunk, row and lane. -/
def mT : FVec F S24x12x128 .f32 := glueMt fun ck rw hc hw => mtVec (d.mTile (12 * rw + ck / 2) (pt_lt hc hw) (128 * (ck % 2)) (tl_le ck) ck rw hc hw)
def rT : FVec F S24x12x128 .f32 := glueMt fun ck rw hc hw => mtVec (d.rTile (12 * rw + ck / 2) (pt_lt hc hw) (128 * (ck % 2)) (tl_le ck) ck rw hc hw)

def mcol (n : Nat) (hn : n < 144) : FVec F S256x128 .f32 :=
  glueTile (colVec (d.mTile n hn 0 (by decide) (chunkAt n 0#32) (rowAt n) (chunkAt_lt hn 0) (rowAt_lt hn)))
    (colVec (d.mTile n hn 128 (by decide) (chunkAt n 1#32) (rowAt n) (chunkAt_lt hn 1) (rowAt_lt hn)))
def rcol (n : Nat) (hn : n < 144) : FVec F S256x128 .f32 :=
  glueTile (colVec (d.rTile n hn 0 (by decide) (chunkAt n 0#32) (rowAt n) (chunkAt_lt hn 0) (rowAt_lt hn)))
    (colVec (d.rTile n hn 128 (by decide) (chunkAt n 1#32) (rowAt n) (chunkAt_lt hn 1) (rowAt_lt hn)))

def y (n : Nat) (hn : n < 144) (r0 j : Nat) (hr : r0 ≤ 224) (hj : j < 36) : FVec F S32x128 .f32 :=
  yVec (rowsOf (d.hf n hn) r0 j hr hj) (grpOf (d.mcol n hn) r0 hr) (grpOf (d.rcol n hn) r0 hr) (vecOf d.g j hj) (vecOf d.b j hj)

def amax (n : Nat) (hn : n < 144) : FVec F S256x128 .f32 := glueCol (Scalar.ofBits .f32 0x00000000#32) fun r0 j hr hj => amaxVec (d.y n hn r0 j hr hj)
def codes (n : Nat) (hn : n < 144) : FVec F S256x4608 .fp8e4m3 :=
  glueRows fun r0 j hr hj => codeVec (d.y n hn r0 j hr hj) (invVec (amaxVec (d.y n hn r0 j hr hj)))
def scl (n : Nat) (hn : n < 144) : FVec F S256x36 .f32 := glueScl fun r0 hr => sclVec (grpOf (d.amax n hn) r0 hr)
def mOut : FVec F S12x3072 .f32 := glueOut fun k hk => planeVec (planeOf d.mT k hk)
def rOut : FVec F S12x3072 .f32 := glueOut fun k hk => planeVec (planeOf d.rT k hk)

/-- The contents of the buffers at grid point `n`, the two buffers of statistics results at `X` and `Y`. -/
def cont (n : Nat) (hn : n < 144) (X Y : FVec F S12x3072 .f32) : St F
  | a2 => d.x n hn
  | a3 => d.r n hn
  | a4 => d.pm
  | a5 => d.p2
  | a6 => d.g
  | a7 => d.b
  | a8 => d.codes n hn
  | a9 => d.scl n hn
  | a10 => X
  | a11 => Y
  | a12 => d.h n hn
  | a13 => d.hf n hn
  | a14 => d.amax n hn
  | a15 => d.s1 n hn
  | a16 => d.s2 n hn
  | a17 => d.mcol n hn
  | a18 => d.rcol n hn
  | a19 => d.pmT
  | a20 => d.p2T
  | a21 => d.mT
  | a22 => d.rT

theorem mTile_congr {n n' : Nat} {hn hn'} {r0 r0' : Nat} {hr hr'} {ck rw : Nat} {hc hw} (h : n = n') (h' : r0 = r0') :
    d.mTile n hn r0 hr ck rw hc hw = d.mTile n' hn' r0' hr' ck rw hc hw := by subst h h'; rfl
theorem rTile_congr {n n' : Nat} {hn hn'} {r0 r0' : Nat} {hr hr'} {ck rw : Nat} {hc hw} (h : n = n') (h' : r0 = r0') :
    d.rTile n hn r0 hr ck rw hc hw = d.rTile n' hn' r0' hr' ck rw hc hw := by subst h h'; rfl

theorem point_eq {n : Nat} (hn : n < 144) (c : Fin 2) : 12 * rowAt n + chunkAt n (BitVec.ofNat 32 c.val) / 2 = n := by
  rw [rowAt_eq ⟨n, hn⟩, chunkAt_eq ⟨n, hn⟩]; dsimp only; omega
theorem tile_eq {n : Nat} (hn : n < 144) (c : Fin 2) : 128 * (chunkAt n (BitVec.ofNat 32 c.val) % 2) = 128 * c.val := by
  rw [chunkAt_eq ⟨n, hn⟩]; dsimp only; omega

theorem slab_pmT (k : Nat) (hk : k < 24) : slabOf d.pmT k hk = slabVec (chunkOf d.pm k hk) := slabOf_glue (fun k hk => slabVec (chunkOf d.pm k hk)) k hk
theorem slab_p2T (k : Nat) (hk : k < 24) : slabOf d.p2T k hk = slabVec (chunkOf d.p2 k hk) := slabOf_glue (fun k hk => slabVec (chunkOf d.p2 k hk)) k hk
theorem out_mOut (k : Nat) (hk : k < 24) : outOf d.mOut k hk = planeVec (planeOf d.mT k hk) := outOf_glue (fun k hk => planeVec (planeOf d.mT k hk)) k hk
theorem out_rOut (k : Nat) (hk : k < 24) : outOf d.rOut k hk = planeVec (planeOf d.rT k hk) := outOf_glue (fun k hk => planeVec (planeOf d.rT k hk)) k hk
theorem mt_mT (ck rw : Nat) (hc : ck < 24) (hw : rw < 12) : mtOf d.mT ck rw hc hw
    = mtVec (d.mTile (12 * rw + ck / 2) (pt_lt hc hw) (128 * (ck % 2)) (tl_le ck) ck rw hc hw) :=
  mtOf_glue (fun ck rw hc hw => mtVec (d.mTile (12 * rw + ck / 2) (pt_lt hc hw) (128 * (ck % 2)) (tl_le ck) ck rw hc hw)) ck rw hc hw
theorem mt_rT (ck rw : Nat) (hc : ck < 24) (hw : rw < 12) : mtOf d.rT ck rw hc hw
    = mtVec (d.rTile (12 * rw + ck / 2) (pt_lt hc hw) (128 * (ck % 2)) (tl_le ck) ck rw hc hw) :=
  mtOf_glue (fun ck rw hc hw => mtVec (d.rTile (12 * rw + ck / 2) (pt_lt hc hw) (128 * (ck % 2)) (tl_le ck) ck rw hc hw)) ck rw hc hw
theorem codes_rows (n : Nat) (hn : n < 144) (r0 j : Nat) (hr : r0 ≤ 224) (hj : j < 36) (h32 : 32 ∣ r0) :
    rowsOf (d.codes n hn) r0 j hr hj = codeVec (d.y n hn r0 j hr hj) (invVec (amaxVec (d.y n hn r0 j hr hj))) :=
  rowsOf_glue (fun r0 j hr hj => codeVec (d.y n hn r0 j hr hj) (invVec (amaxVec (d.y n hn r0 j hr hj)))) r0 j hr hj h32
theorem amax_col (n : Nat) (hn : n < 144) (r0 j : Nat) (hr : r0 ≤ 224) (hj : j < 36) (h32 : 32 ∣ r0) :
    colOf (d.amax n hn) r0 j hr hj = amaxVec (d.y n hn r0 j hr hj) :=
  colOf_glue _ (fun r0 j hr hj => amaxVec (d.y n hn r0 j hr hj)) r0 j hr hj h32
theorem s1_grp (n : Nat) (hn : n < 144) (r0 : Nat) (hr : r0 ≤ 224) (h32 : 32 ∣ r0) :
    grpOf (d.s1 n hn) r0 hr = meanVec (accum (fun j hj => rowsOf (d.hf n hn) r0 j hr hj) 35 (by decide)) :=
  grpOf_glue (fun r0 hr => meanVec (accum (fun j hj => rowsOf (d.hf n hn) r0 j hr hj) 35 (by decide))) r0 hr h32
theorem s2_grp (n : Nat) (hn : n < 144) (r0 : Nat) (hr : r0 ≤ 224) (h32 : 32 ∣ r0) :
    grpOf (d.s2 n hn) r0 hr = accum (fun j hj => sqVec (rowsOf (d.hf n hn) r0 j hr hj) (grpOf (d.s1 n hn) r0 hr)) 35 (by decide) :=
  grpOf_glue (fun r0 hr => accum (fun j hj => sqVec (rowsOf (d.hf n hn) r0 j hr hj) (grpOf (d.s1 n hn) r0 hr)) 35 (by decide)) r0 hr h32
theorem scl_grp (n : Nat) (hn : n < 144) (r0 : Nat) (hr : r0 ≤ 224) (h32 : 32 ∣ r0) : sclOf (d.scl n hn) r0 hr = sclVec (grpOf (d.amax n hn) r0 hr) :=
  sclOf_glue (fun r0 hr => sclVec (grpOf (d.amax n hn) r0 hr)) r0 hr h32

theorem eqs (n : Nat) (hn : n < 144) (X Y : FVec F S12x3072 .f32) (hX : isLast n = 1#1 → X = d.mOut) (hY : isLast n = 1#1 → Y = d.rOut) :
    StepEqs d.C (d.cont n hn X Y) n hn where
  e12 r0 j hr hj := by
    unfold hVec; rw [shapeCast_self, shapeCast_self]; rfl
  e13 r0 j hr hj := by
    unfold hfVec hVec; rw [shapeCast_self, shapeCast_self]; rfl
  e15 r0 hr h32 := (d.s1_grp n hn r0 hr h32).symm
  e16 r0 hr h32 := (d.s2_grp n hn r0 hr h32).symm
  t0 := {
    e21 := by
      refine Eq.trans (congrArg mtVec ?_) (d.mt_mT _ _ _ _).symm
      exact d.mTile_congr (point_eq hn 0).symm (tile_eq hn 0).symm
    e22 := by
      refine Eq.trans (congrArg mtVec ?_) (d.mt_rT _ _ _ _).symm
      exact d.rTile_congr (point_eq hn 0).symm (tile_eq hn 0).symm
    e17 := (tileOf_glue0 _ _).symm
    e18 := (tileOf_glue0 _ _).symm }
  t1 := {
    e21 := by
      refine Eq.trans (congrArg mtVec ?_) (d.mt_mT _ _ _ _).symm
      exact d.mTile_congr (point_eq hn 1).symm (tile_eq hn 1).symm
    e22 := by
      refine Eq.trans (congrArg mtVec ?_) (d.mt_rT _ _ _ _).symm
      exact d.rTile_congr (point_eq hn 1).symm (tile_eq hn 1).symm
    e17 := (tileOf_glue1 _ _).symm
    e18 := (tileOf_glue1 _ _).symm }
  e14 r0 j hr hj h32 := (d.amax_col n hn r0 j hr hj h32).symm
  e8 r0 j hr hj h32 := (d.codes_rows n hn r0 j hr hj h32).symm
  e9 r0 hr h32 a ha := by
    refine Eq.trans ?_ (d.scl_grp n hn r0 hr h32).symm
    funext x
    have h0 : (x 0).val < 32 := (x 0).isLt
    have h1 : (x 1).val < 36 := (x 1).isLt
    have e : a (ix2 (n0 := 32) (n1 := 128) ⟨(x 0).val, h0⟩ ⟨(x 1).val, by omega⟩) = grpOf (d.amax n hn) r0 hr (ix2 (n0 := 32) (n1 := 128) ⟨(x 0).val, h0⟩ ⟨(x 1).val, by omega⟩) :=
      ha _ h1
    have r : ∀ v : FVec F S32x128 .f32, sclVec v x = scaleS (v (ix2 (n0 := 32) (n1 := 128) ⟨(x 0).val, h0⟩ ⟨(x 1).val, by omega⟩)) := fun v => by
      unfold sclVec
      pointwise
      rw [scale_apply]
    exact (r a).trans ((congrArg scaleS e).trans (r _).symm)
  e19 _ k hk := (d.slab_pmT k hk).symm
  e20 _ k hk := (d.slab_p2T k hk).symm
  e10 h k hk := by rw [show d.cont n hn X Y a10 = d.mOut from hX h]; exact (d.out_mOut k hk).symm
  e11 h k hk := by rw [show d.cont n hn X Y a11 = d.rOut from hY h]; exact (d.out_rOut k hk).symm

end Ops

end K01
-- ==== Proof.Point.lean ====
/-
  The body at one grid point, from the twenty-two buffers it is called with to the same buffers after it: the operand
  buffers hold their blocks, the scratch buffers hold what the earlier grid points left there for this one.
-/
module

public import proofs.«01_k».proof.Proof.Contents

@[expose] public section

noncomputable section

namespace K01

open Idealize.ShloMosaic Idealize.ShloMosaic.TcCoe Idealize.SL Idealize.SL.Sem
open Idealize.SL.RA Idealize.SL.ProofMode
open Idealize.SL.BI (sProp bigSep bigSep_univ_eq_bigSepL)
open scoped Idealize.SL.BI
open Idealize.SL.BI.BIBase Idealize.SL.BI.Laws
open Buf'

theorem isFirst_iff (n : Fin 144) : isFirst n.val = 1#1 ↔ n.val = 0 := by revert n; decide
theorem isLast_iff (n : Fin 144) : isLast n.val = 1#1 ↔ n.val = 143 := by revert n; decide

/-- The places of the merged statistics that the grid points before `n` fill: point `12·row + chunk / 2` fills a chunk. -/
def doneMt (n : Nat) : Set S24x12x128.Idx := {y | 12 * (y 1).val + (y 0).val / 2 < n}

/-- What is known before grid point `n`. -/
def known (n : Nat) : Dom
  | a2 | a3 | a4 | a5 | a6 | a7 => Set.univ
  | a10 | a11 => {_y | n ≠ 143}
  | a19 | a20 => {_y | n ≠ 0}
  | a21 | a22 => doneMt n
  | _ => ∅

/-- What is known after it. -/
def left' (n : Nat) : Dom
  | a2 | a3 | a4 | a5 | a6 | a7 | a8 | a9 | a10 | a11 | a12 | a19 | a20 => Set.univ
  | a21 | a22 => doneMt (n + 1)
  | _ => ∅

theorem mem_mt (y : S24x12x128.Idx) (ck rw : Nat) (hc : ck < 24) (hw : rw < 12) (h : (y 0).val = ck) (h' : (y 1).val = rw) : y ∈ (mtRect ck rw hc hw).set := by
  refine (mtRect _ _ hc hw).mem_set.mpr fun a => ?_
  fin_cases a
  · exact ⟨0, Nat.one_pos, by show (y 0).val = ck + 1 * 0; omega⟩
  · exact ⟨0, Nat.one_pos, by show (y 1).val = rw + 1 * 0; omega⟩
  · exact ⟨(y 2).val, (y 2).isLt, by show (y 2).val = 0 + 1 * _; omega⟩

/-- The chunk and row of a place filled at point `n`. -/
theorem spot_of_point {n : Nat} (hn : n < 144) (y : S24x12x128.Idx) (h : 12 * (y 1).val + (y 0).val / 2 = n) :
    y ∈ (mtRect (chunkAt n 0#32) (rowAt n) (chunkAt_lt hn 0) (rowAt_lt hn)).set ∨ y ∈ (mtRect (chunkAt n 1#32) (rowAt n) (chunkAt_lt hn 1) (rowAt_lt hn)).set := by
  have h0 : (y 0).val < 24 := (y 0).isLt
  have h1 : (y 1).val < 12 := (y 1).isLt
  have er := rowAt_eq ⟨n, hn⟩
  have e0 := chunkAt_eq ⟨n, hn⟩ 0
  have e1 := chunkAt_eq ⟨n, hn⟩ 1
  dsimp only at er e0 e1
  change chunkAt n 0#32 = _ at e0
  change chunkAt n 1#32 = _ at e1
  by_cases hp : (y 0).val % 2 = 0
  · refine .inl (mem_mt y _ _ _ _ ?_ ?_)
    · rw [e0]; simp only [Fin.val_zero]; omega
    · rw [er]; omega
  · refine .inr (mem_mt y _ _ _ _ ?_ ?_)
    · rw [e1]; simp only [Fin.val_one]; omega
    · rw [er]; omega

theorem done_succ21 {n : Nat} (hn : n < 144) (y : S24x12x128.Idx) (h : 12 * (y 1).val + (y 0).val / 2 = n) : y ∈ (newT0 n hn ⊔ newT1 n hn) a21 := by
  rcases spot_of_point hn y h with h | h
  · exact (single_le.mp ((show spot a21 _ ≤ newT0 n hn from le_sup_left).trans (le_sup_left (b := newT1 n hn)))) h
  · exact (single_le.mp ((show spot a21 _ ≤ newT1 n hn from le_sup_left).trans (le_sup_right (a := newT0 n hn)))) h

theorem done_succ22 {n : Nat} (hn : n < 144) (y : S24x12x128.Idx) (h : 12 * (y 1).val + (y 0).val / 2 = n) : y ∈ (newT0 n hn ⊔ newT1 n hn) a22 := by
  rcases spot_of_point hn y h with h | h
  · exact (single_le.mp ((show spot a22 _ ≤ newT0 n hn from le_sup_left.trans le_sup_right).trans (le_sup_left (b := newT1 n hn)))) h
  · exact (single_le.mp ((show spot a22 _ ≤ newT1 n hn from le_sup_left.trans le_sup_right).trans (le_sup_right (a := newT0 n hn)))) h

theorem known_pre (n : Nat) (hn : n < 144) : Pre (known n) n hn where
  f2 := single_le.mpr fun _ h => h
  f3 := single_le.mpr fun _ h => h
  f4 := single_le.mpr fun _ h => h
  f5 := single_le.mpr fun _ h => h
  f6 := single_le.mpr fun _ h => h
  f7 := single_le.mpr fun _ h => h
  f19 h := single_le.mpr fun _ _ => fun e => h ((isFirst_iff ⟨n, hn⟩).mpr e)
  f20 h := single_le.mpr fun _ _ => fun e => h ((isFirst_iff ⟨n, hn⟩).mpr e)
  f21 h := single_le.mpr fun y _ => by
    have h0 : (y 0).val < 24 := (y 0).isLt
    have h1 : (y 1).val < 12 := (y 1).isLt
    have e := (isLast_iff ⟨n, hn⟩).mp h
    dsimp only at e
    by_cases hy : 12 * (y 1).val + (y 0).val / 2 = n
    · exact Or.inr (done_succ21 hn y hy)
    · exact Or.inl (show 12 * (y 1).val + (y 0).val / 2 < n by omega)
  f22 h := single_le.mpr fun y _ => by
    have h0 : (y 0).val < 24 := (y 0).isLt
    have h1 : (y 1).val < 12 := (y 1).isLt
    have e := (isLast_iff ⟨n, hn⟩).mp h
    dsimp only at e
    by_cases hy : 12 * (y 1).val + (y 0).val / 2 = n
    · exact Or.inr (done_succ22 hn y hy)
    · exact Or.inl (show 12 * (y 1).val + (y 0).val / 2 < n by omega)

theorem post_tiles (D : Dom) (n : Nat) (hn : n < 144) : afterTiles D n hn ≤ post D n hn := le_sup_left.trans le_sup_left
theorem post_D (D : Dom) (n : Nat) (hn : n < 144) : D ≤ post D n hn := (afterTiles_D D n hn).trans (post_tiles D n hn)
theorem post_G1 (D : Dom) (n : Nat) (hn : n < 144) : allG1 ≤ post D n hn := (le_sup_right.trans (afterTiles_base D n hn)).trans (post_tiles D n hn)
theorem post_G2 (D : Dom) (n : Nat) (hn : n < 144) : allG2 ≤ post D n hn := le_sup_right.trans le_sup_left
theorem post_T (D : Dom) (n : Nat) (hn : n < 144) : newT0 n hn ⊔ newT1 n hn ≤ post D n hn := (afterTiles_T D n hn).trans (post_tiles D n hn)
theorem post_19 (D : Dom) (n : Nat) (hn : n < 144) : full a19 ≤ post D n hn :=
  ((le_sup_right.trans (le_sup_left.trans le_sup_left)).trans (afterTiles_base D n hn)).trans (post_tiles D n hn)
theorem post_20 (D : Dom) (n : Nat) (hn : n < 144) : full a20 ≤ post D n hn :=
  ((le_sup_right.trans le_sup_left).trans (afterTiles_base D n hn)).trans (post_tiles D n hn)
theorem post_U (D : Dom) (n : Nat) (hn : n < 144) (h : n = 143) : allU ≤ post D n hn := by
  unfold post; rw [if_pos ((isLast_iff ⟨n, hn⟩).mpr h)]; exact le_sup_right

theorem left_le (n : Nat) (hn : n < 144) (i : Buf') : left' n i ⊆ post (known n) n hn i := by
  have hD : ∀ i, known n i ⊆ post (known n) n hn i := post_D (known n) n hn
  cases i
  case a2 => exact hD a2
  case a3 => exact hD a3
  case a4 => exact hD a4
  case a5 => exact hD a5
  case a6 => exact hD a6
  case a7 => exact hD a7
  case a8 => exact single_le.mp (cov8.trans (post_G2 _ n hn))
  case a9 => exact single_le.mp (cov9.trans (post_G2 _ n hn))
  case a10 =>
    by_cases h : n = 143
    · exact single_le.mp (cov10.trans (post_U _ n hn h))
    · exact fun y _ => hD a10 h
  case a11 =>
    by_cases h : n = 143
    · exact single_le.mp (cov11.trans (post_U _ n hn h))
    · exact fun y _ => hD a11 h
  case a12 => exact single_le.mp (cov12.trans (post_G1 _ n hn))
  case a19 => exact single_le.mp (post_19 _ n hn)
  case a20 => exact single_le.mp (post_20 _ n hn)
  case a21 =>
    intro y hy
    by_cases h : 12 * (y 1).val + (y 0).val / 2 = n
    · exact post_T _ n hn a21 (done_succ21 hn y h)
    · exact hD a21 (show 12 * (y 1).val + (y 0).val / 2 < n by have : 12 * (y 1).val + (y 0).val / 2 < n + 1 := hy; omega)
  case a22 =>
    intro y hy
    by_cases h : 12 * (y 1).val + (y 0).val / 2 = n
    · exact post_T _ n hn a22 (done_succ22 hn y h)
    · exact hD a22 (show 12 * (y 1).val + (y 0).val / 2 < n by have : 12 * (y 1).val + (y 0).val / 2 < n + 1 := hy; omega)
  all_goals exact fun _ h => h.elim

variable {nD : Nat} {τ : Topo} {sig : RefSig} {Ix : Type} [DecidableEq Ix] {Λ₀ : Labels} {F : FTy → Type} [FloatOps F]
variable {Name : Type} [DecidableEq Name] {U : Type} [URA U] {Lvl : Type} [Preorder Lvl]
variable (defs₀ : Defs nD τ sig (Elt F) Λ₀) (𝒱 : Variants) (c : Dev nD) (E : Set Name)

local notation "𝕄" => MT nD τ sig Ix (Elt F) Name U Lvl

/-- What the scratch buffers hold between grid points: the operands' statistics restaged once the first point has run,
    and the merged statistics of the earlier points. -/
structure Kept (d : Ops F) (n : Nat) (X19 X20 : FVec F S3x24x12x128 .f32) (X21 X22 : FVec F S24x12x128 .f32) : Prop where
  k19 : n ≠ 0 → X19 = d.pmT
  k20 : n ≠ 0 → X20 = d.p2T
  k21 : ∀ y ∈ doneMt n, X21 y = d.mT y
  k22 : ∀ y ∈ doneMt n, X22 y = d.rT y

/-- The scratch buffers before grid point `n`. -/
def scratch (m13 : Memref sig .tc .vmem S256x4608 .f32) (m14 m15 m16 m17 m18 : Memref sig .tc .vmem S256x128 .f32)
    (m19 m20 : Memref sig .tc .vmem S3x24x12x128 .f32) (m21 m22 : Memref sig .tc .vmem S24x12x128 .f32) (d : Ops F) (n : Nat) : sProp 𝕄 :=
  iprop(∃ (X13 : FVec F S256x4608 .f32) (X14 X15 X16 X17 X18 : FVec F S256x128 .f32) (X19 X20 : FVec F S3x24x12x128 .f32) (X21 X22 : FVec F S24x12x128 .f32),
    ⌜Kept d n X19 X20 X21 X22⌝ ∗ owns (c : Thread nD τ) m13 fullShare X13 ∗ owns (c : Thread nD τ) m14 fullShare X14
      ∗ owns (c : Thread nD τ) m15 fullShare X15 ∗ owns (c : Thread nD τ) m16 fullShare X16 ∗ owns (c : Thread nD τ) m17 fullShare X17
      ∗ owns (c : Thread nD τ) m18 fullShare X18 ∗ owns (c : Thread nD τ) m19 fullShare X19 ∗ owns (c : Thread nD τ) m20 fullShare X20
      ∗ owns (c : Thread nD τ) m21 fullShare X21 ∗ owns (c : Thread nD τ) m22 fullShare X22)

/-- A table of contents, buffer by buffer. -/
def tab (X2 X3 : FVec F S256x4608 .bf16) (X4 X5 : FVec F S3x12x3072 .f32) (X6 X7 : FVec F S1x4608 .f32) (X8 : FVec F S256x4608 .fp8e4m3)
    (X9 : FVec F S256x36 .f32) (X10 X11 : FVec F S12x3072 .f32) (X12 : FVec F S256x4608 .bf16) (X13 : FVec F S256x4608 .f32)
    (X14 X15 X16 X17 X18 : FVec F S256x128 .f32) (X19 X20 : FVec F S3x24x12x128 .f32) (X21 X22 : FVec F S24x12x128 .f32) : St F
  | a2 => X2 | a3 => X3 | a4 => X4 | a5 => X5 | a6 => X6 | a7 => X7 | a8 => X8 | a9 => X9 | a10 => X10 | a11 => X11 | a12 => X12 | a13 => X13
  | a14 => X14 | a15 => X15 | a16 => X16 | a17 => X17 | a18 => X18 | a19 => X19 | a20 => X20 | a21 => X21 | a22 => X22

theorem own_eq (R : Args sig) (C : S3.Idx → Elt F .f32) (σ : St F) :
    (own c R C σ : sProp 𝕄) = iprop(owns (c : Thread nD τ) R.a1 fullShare C
      ∗ owns (c : Thread nD τ) R.a2 fullShare (σ a2) ∗ owns (c : Thread nD τ) R.a3 fullShare (σ a3) ∗ owns (c : Thread nD τ) R.a4 fullShare (σ a4)
      ∗ owns (c : Thread nD τ) R.a5 fullShare (σ a5) ∗ owns (c : Thread nD τ) R.a6 fullShare (σ a6) ∗ owns (c : Thread nD τ) R.a7 fullShare (σ a7)
      ∗ owns (c : Thread nD τ) R.a8 fullShare (σ a8) ∗ owns (c : Thread nD τ) R.a9 fullShare (σ a9) ∗ owns (c : Thread nD τ) R.a10 fullShare (σ a10)
      ∗ owns (c : Thread nD τ) R.a11 fullShare (σ a11) ∗ owns (c : Thread nD τ) R.a12 fullShare (σ a12) ∗ owns (c : Thread nD τ) R.a13 fullShare (σ a13)
      ∗ owns (c : Thread nD τ) R.a14 fullShare (σ a14) ∗ owns (c : Thread nD τ) R.a15 fullShare (σ a15) ∗ owns (c : Thread nD τ) R.a16 fullShare (σ a16)
      ∗ owns (c : Thread nD τ) R.a17 fullShare (σ a17) ∗ owns (c : Thread nD τ) R.a18 fullShare (σ a18) ∗ owns (c : Thread nD τ) R.a19 fullShare (σ a19)
      ∗ owns (c : Thread nD τ) R.a20 fullShare (σ a20) ∗ owns (c : Thread nD τ) R.a21 fullShare (σ a21) ∗ owns (c : Thread nD τ) R.a22 fullShare (σ a22)) := by
  unfold own
  rw [bigSep_univ_eq_bigSepL bufs (by decide) (by decide)]
  rfl

/-- The buffers the body is called with at grid point `n`, the operands' at their blocks, the results' at anything. -/
def callPre (R : Args sig) (d : Ops F) (n : Nat) (hn : n < 144) (X Y : FVec F S12x3072 .f32) : sProp 𝕄 :=
  iprop(owns (c : Thread nD τ) R.a1 fullShare d.C
      ∗ owns (c : Thread nD τ) R.a2 fullShare (d.x n hn) ∗ owns (c : Thread nD τ) R.a3 fullShare (d.r n hn) ∗ owns (c : Thread nD τ) R.a4 fullShare d.pm
      ∗ owns (c : Thread nD τ) R.a5 fullShare d.p2 ∗ owns (c : Thread nD τ) R.a6 fullShare d.g ∗ owns (c : Thread nD τ) R.a7 fullShare d.b
      ∗ (∃ Z, owns (c : Thread nD τ) R.a8 fullShare Z) ∗ (∃ Z, owns (c : Thread nD τ) R.a9 fullShare Z) ∗ owns (c : Thread nD τ) R.a10 fullShare X
      ∗ owns (c : Thread nD τ) R.a11 fullShare Y ∗ (∃ Z, owns (c : Thread nD τ) R.a12 fullShare Z)
      ∗ scratch c R.a13 R.a14 R.a15 R.a16 R.a17 R.a18 R.a19 R.a20 R.a21 R.a22 d n)

/-- The buffers after it. -/
def callPost (R : Args sig) (d : Ops F) (n : Nat) (hn : n < 144) (X Y : FVec F S12x3072 .f32) : sProp 𝕄 :=
  iprop(owns (c : Thread nD τ) R.a1 fullShare d.C
      ∗ owns (c : Thread nD τ) R.a2 fullShare (d.x n hn) ∗ owns (c : Thread nD τ) R.a3 fullShare (d.r n hn) ∗ owns (c : Thread nD τ) R.a4 fullShare d.pm
      ∗ owns (c : Thread nD τ) R.a5 fullShare d.p2 ∗ owns (c : Thread nD τ) R.a6 fullShare d.g ∗ owns (c : Thread nD τ) R.a7 fullShare d.b
      ∗ owns (c : Thread nD τ) R.a8 fullShare (d.codes n hn) ∗ owns (c : Thread nD τ) R.a9 fullShare (d.scl n hn) ∗ owns (c : Thread nD τ) R.a10 fullShare X
      ∗ owns (c : Thread nD τ) R.a11 fullShare Y ∗ owns (c : Thread nD τ) R.a12 fullShare (d.h n hn)
      ∗ scratch c R.a13 R.a14 R.a15 R.a16 R.a17 R.a18 R.a19 R.a20 R.a21 R.a22 d (n + 1))

theorem callPre_inv (R : Args sig) (d : Ops F) (n : Nat) (hn : n < 144) (X0 Y0 X Y : FVec F S12x3072 .f32) (hX : n ≠ 143 → X0 = X) (hY : n ≠ 143 → Y0 = Y) :
    (callPre c R d n hn X0 Y0 : sProp 𝕄) ⊢ Inv c R d.C (d.cont n hn X Y) (known n) := by
  unfold callPre scratch Inv
  iintro ⟨H1, H2, H3, H4, H5, H6, H7, ⟨%X8, H8⟩, ⟨%X9, H9⟩, H10, H11, ⟨%X12, H12⟩, ⟨%X13, %X14, %X15, %X16, %X17, %X18, %X19, %X20, %X21, %X22, %hK, H13, H14, H15, H16, H17, H18, H19, H20, H21, H22⟩⟩
  iexists (tab (d.x n hn) (d.r n hn) d.pm d.p2 d.g d.b X8 X9 X0 Y0 X12 X13 X14 X15 X16 X17 X18 X19 X20 X21 X22)
  isplitr
  · ipureintro
    intro i y hy
    cases i
    case a2 => rfl
    case a3 => rfl
    case a4 => rfl
    case a5 => rfl
    case a6 => rfl
    case a7 => rfl
    case a10 => exact congrFun (hX hy) y
    case a11 => exact congrFun (hY hy) y
    case a19 => exact congrFun (hK.k19 hy) y
    case a20 => exact congrFun (hK.k20 hy) y
    case a21 => exact hK.k21 y hy
    case a22 => exact hK.k22 y hy
    all_goals exact hy.elim
  · iapply (BI.BIBase.Entails.of_eq (own_eq c R d.C _).symm)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

theorem own_callPost (R : Args sig) (d : Ops F) (n : Nat) (hn : n < 144) (X Y : FVec F S12x3072 .f32) (σ : St F) (h : Agree (d.cont n hn X Y) (left' n) σ) :
    (own c R d.C σ : sProp 𝕄) ⊢ callPost c R d n hn X Y := by
  have e2 : σ a2 = d.x n hn := funext fun y => h a2 y trivial
  have e3 : σ a3 = d.r n hn := funext fun y => h a3 y trivial
  have e4 : σ a4 = d.pm := funext fun y => h a4 y trivial
  have e5 : σ a5 = d.p2 := funext fun y => h a5 y trivial
  have e6 : σ a6 = d.g := funext fun y => h a6 y trivial
  have e7 : σ a7 = d.b := funext fun y => h a7 y trivial
  have e8 : σ a8 = d.codes n hn := funext fun y => h a8 y trivial
  have e9 : σ a9 = d.scl n hn := funext fun y => h a9 y trivial
  have e10 : σ a10 = X := funext fun y => h a10 y trivial
  have e11 : σ a11 = Y := funext fun y => h a11 y trivial
  have e12 : σ a12 = d.h n hn := funext fun y => h a12 y trivial
  have hK : Kept d (n + 1) (σ a19) (σ a20) (σ a21) (σ a22) :=
    ⟨fun _ => funext fun y => h a19 y trivial, fun _ => funext fun y => h a20 y trivial, fun y hy => h a21 y hy, fun y hy => h a22 y hy⟩
  rw [own_eq, e2, e3, e4, e5, e6, e7, e8, e9, e10, e11, e12]
  unfold callPost scratch
  iintro ⟨H1, H2, H3, H4, H5, H6, H7, H8, H9, H10, H11, H12, H⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists σ a13, σ a14, σ a15, σ a16, σ a17, σ a18, σ a19, σ a20, σ a21, σ a22
  isplitr
  · ipureintro; exact hK
  · iexact H

/-- The body at grid point `n`. The two buffers of statistics results are filled at the last point and untouched before. -/
theorem point (R : Args sig) (d : Ops F) (n : Nat) (hn : n < 144) (X0 Y0 X Y : FVec F S12x3072 .f32)
    (hX : n ≠ 143 → X0 = X) (hY : n ≠ 143 → Y0 = Y) (hX' : n = 143 → X = d.mOut) (hY' : n = 143 → Y = d.rOut) :
    (callPre c R d n hn X0 Y0 : sProp 𝕄) ⊢ wp frame (wpE defs₀ 𝒱 (c : Thread nD τ) none) E (body R n hn) fun _ => callPost c R d n hn X Y := by
  have H := body_runs (Ix := Ix) (U := U) (Lvl := Lvl) (defs₀ := defs₀) (𝒱 := 𝒱) (c := c) (E := E) (R := R)
    (d.eqs n hn X Y (fun h => hX' ((isLast_iff ⟨n, hn⟩).mp h)) (fun h => hY' ((isLast_iff ⟨n, hn⟩).mp h))) (known_pre n hn)
  unfold Runs at H
  refine (callPre_inv c R d n hn X0 Y0 X Y hX hY).trans (H.trans (wp_mono _ _ _ fun a => ?_))
  unfold Inv
  iintro ⟨-, ⟨%σ, %hA, HI⟩⟩
  iapply (own_callPost c R d n hn X Y σ fun i y hy => hA i y (left_le n hn i hy)) $$ HI

end K01
-- ==== Proof.RunBits.lean ====
/-
  The run of `Kernel`: its body is the generic program, the pipeline's proof data names what each grid point leaves in
  each buffer, and the launch theorem gives the arrays at the end.
-/
module

public import proofs.«01_k».proof.Proof.Point
public import proofs.«01_k».proof.Proof.Gen.Kernel.Frame
public import proofs.«01_k».proof.Proof.Gen.Kernel.Skeleton
public import Idealize.ShloMosaic.Lib.Claim

@[expose] public section

set_option maxRecDepth 16384

noncomputable section

namespace Cert.Proof.RunBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed body is the generic program. -/
theorem body_eq (i : grid0.Coords) (R : K01.Args sig) (harg1 : R.a1.IsWhole) (harg2 : R.a2.IsWhole) (harg3 : R.a3.IsWhole) (harg4 : R.a4.IsWhole) (harg5 : R.a5.IsWhole) (harg6 : R.a6.IsWhole) (harg7 : R.a7.IsWhole) (harg8 : R.a8.IsWhole) (harg9 : R.a9.IsWhole) (harg10 : R.a10.IsWhole) (harg11 : R.a11.IsWhole) (harg12 : R.a12.IsWhole) (harg13 : R.a13.IsWhole) (harg14 : R.a14.IsWhole) (harg15 : R.a15.IsWhole) (harg16 : R.a16.IsWhole) (harg17 : R.a17.IsWhole) (harg18 : R.a18.IsWhole) (harg19 : R.a19.IsWhole) (harg20 : R.a20.IsWhole) (harg21 : R.a21.IsWhole) (harg22 : R.a22.IsWhole) : cc0__body (F := F) i R.a1 harg1 R.a2 harg2 R.a3 harg3 R.a4 harg4 R.a5 harg5 R.a6 harg6 R.a7 harg7 R.a8 harg8 R.a9 harg9 R.a10 harg10 R.a11 harg11 R.a12 harg12 R.a13 harg13 R.a14 harg14 R.a15 harg15 R.a16 harg16 R.a17 harg17 R.a18 harg18 R.a19 harg19 R.a20 harg20 R.a21 harg21 R.a22 harg22 = K01.body ⟨R.a1,R.a2,R.a3,R.a4,R.a5,R.a6,R.a7,R.a8,R.a9,R.a10,R.a11,R.a12,R.a13,R.a14,R.a15,R.a16,R.a17,R.a18,R.a19,R.a20,R.a21,R.a22,harg8,harg12⟩ (i 0).val (i 0).isLt := by
  sl_kernel_rfl

theorem pt_lt (n : Nat) (hn : n < 144) : n < cfg0.N := lt_of_lt_of_eq hn N_0.symm
theorem lt_pt (t : Fin cfg0.N) : t.val < 144 := lt_of_lt_of_eq t.isLt N_0
theorem coord_eq : ∀ t : Fin grid0.N, (grid0.coords t 0).val = t.val := by decide

/-- The operands: the blocks of the arrays the region finds. -/
def opsOf (c : Dev nD) : K01.Ops F where
  C := iblk m c 0 ⟨0, pt_lt 0 (by decide)⟩
  x n hn := iblk m c 1 ⟨n, pt_lt n hn⟩
  r n hn := iblk m c 2 ⟨n, pt_lt n hn⟩
  pm := iblk m c 3 ⟨0, pt_lt 0 (by decide)⟩
  p2 := iblk m c 4 ⟨0, pt_lt 0 (by decide)⟩
  g := iblk m c 5 ⟨0, pt_lt 0 (by decide)⟩
  b := iblk m c 6 ⟨0, pt_lt 0 (by decide)⟩

/-- The operands that do not move with the grid point have one block. -/
theorem iblk_const0 (c : Dev nD) (t t' : Fin cfg0.N) : iblk m c 0 t = iblk m c 0 t' := rfl
theorem iblk_const3 (c : Dev nD) (t t' : Fin cfg0.N) : iblk m c 3 t = iblk m c 3 t' := rfl
theorem iblk_const4 (c : Dev nD) (t t' : Fin cfg0.N) : iblk m c 4 t = iblk m c 4 t' := rfl
theorem iblk_const5 (c : Dev nD) (t t' : Fin cfg0.N) : iblk m c 5 t = iblk m c 5 t' := rfl
theorem iblk_const6 (c : Dev nD) (t t' : Fin cfg0.N) : iblk m c 6 t = iblk m c 6 t' := rfl

/-- The scratch buffers between grid points. -/
abbrev held (c : Dev nD) (n : Nat) : sProp 𝕄 :=
  K01.scratch c (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) (Memref.whole cc0_scratch9) (opsOf m c) n

/-- The proof data: after grid point `t` each operand's buffer holds its block, each result's the kernel's values there; the
    scratch buffers carry the restaged statistics and the merged ones. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (opsOf m c).codes t.val (lt_pt t)
    | ⟨8, _⟩ => (opsOf m c).scl t.val (lt_pt t)
    | ⟨9, _⟩ => (opsOf m c).mOut
    | ⟨10, _⟩ => (opsOf m c).rOut
    | ⟨11, _⟩ => (opsOf m c).h t.val (lt_pt t)
  Φ t := iprop(held m c t.val ∗ ∃ r, prngReg c r)
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (opsOf m c).codes t.val (lt_pt t) := by dsimp only [dats]
theorem after0_8 (c : Dev nD) (t : Fin cfg0.N) : (dats m 0 c).after 8 t = (opsOf m c).scl t.val (lt_pt t) := by dsimp only [dats]
theorem after0_9 (c : Dev nD) (t : Fin cfg0.N) : (dats m 0 c).after 9 t = (opsOf m c).mOut := by dsimp only [dats]
theorem after0_10 (c : Dev nD) (t : Fin cfg0.N) : (dats m 0 c).after 10 t = (opsOf m c).rOut := by dsimp only [dats]
theorem after0_11 (c : Dev nD) (t : Fin cfg0.N) : (dats m 0 c).after 11 t = (opsOf m c).h t.val (lt_pt t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-! ## The body at a grid point -/

/-- The buffers the body is called with at point `t`. -/
abbrev argsAt (t : Fin cfg0.N) : K01.Args sig :=
  ⟨st0_0 t, st0_1 t, st0_2 t, st0_3 t, st0_4 t, st0_5 t, st0_6 t, st0_7 t, st0_8 t, st0_9 t, st0_10 t, st0_11 t,
    Memref.whole cc0_scratch0, Memref.whole cc0_scratch1, Memref.whole cc0_scratch2, Memref.whole cc0_scratch3, Memref.whole cc0_scratch4,
    Memref.whole cc0_scratch5, Memref.whole cc0_scratch6, Memref.whole cc0_scratch7, Memref.whole cc0_scratch8, Memref.whole cc0_scratch9,
    hstage0_7 ((cfg0.slots t 7).cast nbuf0_7), hstage0_11 ((cfg0.slots t 11).cast nbuf0_11)⟩

theorem bodyAt_eq (t : Fin cfg0.N) : (bodyAt0 (F := F) t) = K01.body (argsAt t) t.val (lt_pt t) := by
  have e : ∀ n (hn : n < 144), n = t.val → K01.body (F := F) (Λ₀ := Λ₀) (nD := nD) (τ := τ) (argsAt t) n hn = K01.body (argsAt t) t.val (lt_pt t) := by
    rintro n hn rfl; rfl
  exact (body_eq (F := F) (grid0.coords t) (argsAt t) _ _ _ _ _ _ _ _ _ _ _ _ _ _ _ _ _ _ _ _ _ _).trans (e _ _ (coord_eq t))

/-- The body's triple at point `t`, over what the two buffers of statistics results are found at and left at. -/
theorem sound (c : Dev nD) (t : Fin cfg0.N) (X0 Y0 X Y : FVec F S12x3072 .f32) (hX : t.val ≠ 143 → X0 = X) (hY : t.val ≠ 143 → Y0 = Y)
    (hX' : t.val = 143 → X = (opsOf m c).mOut) (hY' : t.val = 143 → Y = (opsOf m c).rOut) :
    (K01.callPre c (argsAt t) (opsOf m c) t.val (lt_pt t) X0 Y0 : sProp 𝕄)
      ⊢ wp frame (wpE (defs₀ (F := F)) Variants.none c none) Set.univ (bodyAt0 t) fun _ => K01.callPost c (argsAt t) (opsOf m c) t.val (lt_pt t) X Y := by
  rw [bodyAt_eq]
  exact K01.point (Ix := Unit) (Name := ℕ) (U := UR sig nD τ) (Lvl := ℕ) (defs₀ (F := F)) Variants.none c Set.univ (argsAt t) (opsOf m c) t.val (lt_pt t) X0 Y0 X Y hX hY hX' hY'

theorem defs₀_row (t : Fin cfg0.N) :
    defs₀ (F := F) .tc cfg0.body (cfg0.bodyArgs t (cfg0.slots t)) = bodyAt0 t := by
  unfold defs₀; rw [Defs.onTc_tc]

/-- The statistics results are idle exactly before the last point. -/
theorem idle_iff (t : Fin cfg0.N) : (k0_cond2 (grid0.coords t) == 1#1) = decide (t.val = 143) := by
  have e : k0_cond2 (grid0.coords t) = K01.isLast (grid0.coords t 0).val := rfl
  rw [e, coord_eq]
  have := K01.isLast_iff ⟨t.val, lt_pt t⟩
  dsimp only at this
  by_cases h : t.val = 143
  · rw [this.mpr h, decide_eq_true h]; rfl
  · rw [decide_eq_false h]; exact beq_eq_false_iff_ne.mpr fun e => h (this.mp e)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: the two buffers of statistics results at `X` and `Y`. -/
def bodyPost (c : Dev nD) (t : Fin cfg0.N) (P9 P10 : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ P9 ∗ P10
    ∗ owns (c : Thread nD τ) (st0_11 t) fullShare ((dats m 0 c).after 11 t))

theorem sound_body (c : Dev nD) (t : Fin cfg0.N) (P9 P10 : sProp 𝕄) (X Y : FVec F S12x3072 .f32 → FVec F S12x3072 .f32)
    (hX : t.val ≠ 143 → ∀ Z, Z = X Z) (hY : t.val ≠ 143 → ∀ Z, Z = Y Z)
    (hX' : t.val = 143 → ∀ Z, X Z = (opsOf m c).mOut) (hY' : t.val = 143 → ∀ Z, Y Z = (opsOf m c).rOut)
    (h9 : ∀ d, owns (c : Thread nD τ) (st0_9 t) fullShare (X ((dats m 0 c).before 9 t d)) ⊢ P9)
    (h10 : ∀ d, owns (c : Thread nD τ) (st0_10 t) fullShare (Y ((dats m 0 c).before 10 t d)) ⊢ P10) :
    bodyPre m c t ⊢ wp frame (wpE (defs₀ (F := F)) Variants.none c none) Set.univ (bodyAt0 t) (fun _ => bodyPost m c t P9 P10) := by
  unfold bodyPre
  simp only [before0_0, before0_1, before0_2, before0_3, before0_4, before0_5, before0_6]
  rw [show (dats m 0 c).Φ t.castSucc = iprop(held m c t.val ∗ ∃ r, prngReg c r) from rfl]
  iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r _ (wpE (defs₀ (F := F)) Variants.none c none) Set.univ (p := bodyAt0 t)
    (Q := fun _ => K01.callPost c (argsAt t) (opsOf m c) t.val (lt_pt t) (X ((dats m 0 c).before 9 t d9)) (Y ((dats m 0 c).before 10 t d10))))
  isplitl [H0 H1 H2 H3 H4 H5 H6 H7 H8 H9 H10 H11 Hs]
  · iapply (sound m c t ((dats m 0 c).before 9 t d9) ((dats m 0 c).before 10 t d10) (X ((dats m 0 c).before 9 t d9)) (Y ((dats m 0 c).before 10 t d10))
      (fun h => hX h _) (fun h => hY h _) (fun h => hX' h _) (fun h => hY' h _))
    unfold K01.callPre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexists _; iexact H11
    iexact Hs
  iintro %a
  unfold K01.callPost bodyPost
  iintro ⟨H0, H1, H2, H3, H4, H5, H6, H7, H8, H9, H10, H11, Hs⟩
  rw [show (dats m 0 c).Φ t.succ = iprop(held m c (t.val + 1) ∗ ∃ r, prngReg c r) from rfl,
    show (dats m 0 c).owesAt () t.succ = (dats m 0 c).owesAt () t.castSucc from rfl,
    after0_0, after0_1, after0_2, after0_3, after0_4, after0_5, after0_6, after0_7, after0_8, after0_11]
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (h9 d9) $$ H9
  isplitl [H10]; · iapply (h10 d10) $$ H10
  iexact H11

theorem idle9_of (t : Fin cfg0.N) (b : Bool) (h : decide (t.val = 143) = !b) : cfg0.idle 9 (cfg0.grid.coords t) = b := by
  show (!(k0_cond2 (grid0.coords t) == 1#1)) = b
  rw [idle_iff, h, Bool.not_not]
theorem idle10_of (t : Fin cfg0.N) (b : Bool) (h : decide (t.val = 143) = !b) : cfg0.idle 10 (cfg0.grid.coords t) = b := by
  show (!(k0_cond2 (grid0.coords t) == 1#1)) = b
  rw [idle_iff, h, Bool.not_not]

theorem leavesExact_live {c : Dev nD} (dat : Dat τ (Elt F) Unit ℕ (UR sig nD τ) ℕ cfg0 c) (w : Fin cfg0.W) (t : Fin cfg0.N) (hi : cfg0.idle w (cfg0.grid.coords t) = false) :
    dat.leavesExact w t = owns c ((cfg0.win w).stage (cfg0.slots t w)) fullShare (dat.after w t) := by
  unfold Dat.leavesExact; rw [hi]

theorem obligation_at (c : Dev nD) (t : Fin cfg0.N) :
    bodyPre m c t ⊢ wp frame (wpE (defs₀ (F := F)) Variants.none c none) Set.univ (bodyAt0 t)
      (fun _ => bodyPost m c t ((dats m 0 c).leavesExact 9 t) ((dats m 0 c).leavesExact 10 t)) := by
  have ht := lt_pt t
  by_cases h : t.val = 143
  · refine sound_body m c t _ _ (fun _ => (opsOf m c).mOut) (fun _ => (opsOf m c).rOut) (fun h' => (h' h).elim) (fun h' => (h' h).elim) (fun _ _ => rfl) (fun _ _ => rfl) (fun d => ?_) (fun d => ?_)
    · rw [leavesExact_live (dats m 0 c) 9 t (idle9_of t false (by rw [decide_eq_true h]; rfl)), after0_9]
    · rw [leavesExact_live (dats m 0 c) 10 t (idle10_of t false (by rw [decide_eq_true h]; rfl)), after0_10]
  · refine sound_body m c t _ _ id id (fun _ _ => rfl) (fun _ _ => rfl) (fun h' => (h h').elim) (fun h' => (h h').elim) (fun d => ?_) (fun d => ?_)
    · rw [(dats m 0 c).leavesExact_idle 9 t (idle9_of t true (by rw [decide_eq_false h]; rfl)) (Bool.eq_false_iff.mpr fun e => h (by have := (flush0_9 t).mp e; omega))]
      iintro H; iexists d; iexact H
    · rw [(dats m 0 c).leavesExact_idle 10 t (idle10_of t true (by rw [decide_eq_false h]; rfl)) (Bool.eq_false_iff.mpr fun e => h (by have := (flush0_10 t).mp e; omega))]
      iintro H; iexists d; iexact H

/-- The body obligation, at every point. -/
theorem body_obligation (c : Dev nD) : BodyObligation (dats (F := F) m 0 c) (defs₀ (F := F)) Variants.none () Set.univ := fun t => by
  rw [bigSep_W0, bigSep_W0, defs₀_row]
  exact triple_restated (obligation_at m c t) rfl .rfl fun _ => .rfl

/-! ## The run and the frame -/

/-- What the region hands over is what the first point needs: nothing is known of the scratch buffers. -/
theorem hin (c : Dev nD) : (Pipeline.ΦA spec0 c : sProp 𝕄) ⊢ (dats m 0 c).Φ 0 := by
  rw [show (dats m 0 c).Φ 0 = iprop(held m c 0 ∗ ∃ r, prngReg c r) from rfl]
  unfold Pipeline.ΦA held K01.scratch
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hp⟩
  isplitr [Hp]
  · iexists f0, f1, f2, f3, f4, f5, f6, f7, f8, f9
    isplitr
    · ipureintro
      exact ⟨fun h => (h rfl).elim, fun h => (h rfl).elim, fun _ h => absurd h (Nat.not_lt_zero _), fun _ h => absurd h (Nat.not_lt_zero _)⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hp

theorem hout (c : Dev nD) : (dats m 0 c).Φ (Fin.last cfg0.N) ⊢ (Pipeline.ΦA spec0 c : sProp 𝕄) := by
  rw [show (dats m 0 c).Φ (Fin.last cfg0.N) = iprop(held m c cfg0.N ∗ ∃ r, prngReg c r) from rfl]
  unfold Pipeline.ΦA held K01.scratch
  rw [scopedRest0_eq]
  simp only [owns_whole]
  iintro ⟨⟨%f0, %f1, %f2, %f3, %f4, %f5, %f6, %f7, %f8, %f9, -, H0, H1, H2, H3, H4, H5, H6, H7, H8, H9⟩, Hp⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    isplitl [H8]; · iexists f8; iexact H8
    iexists f9; iexact H9
  · iexact Hp

set_option backward.isDefEq.respectTransparency.types false in
/-- The run: every array of the pipeline ends at what the proof data computes, every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Proof.RunBits

end
-- ==== Proof.RunIdeal.lean ====
/-
  The run of `KernelIdeal`: its body is the generic program, the pipeline's proof data names what each grid point leaves in
  each buffer, and the launch theorem gives the arrays at the end.
-/
module

public import proofs.«01_k».proof.Proof.Point
public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.Proof.RunIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed body is the generic program. -/
theorem body_eq (i : grid0.Coords) (R : K01.Args sig) (harg1 : R.a1.IsWhole) (harg2 : R.a2.IsWhole) (harg3 : R.a3.IsWhole) (harg4 : R.a4.IsWhole) (harg5 : R.a5.IsWhole) (harg6 : R.a6.IsWhole) (harg7 : R.a7.IsWhole) (harg8 : R.a8.IsWhole) (harg9 : R.a9.IsWhole) (harg10 : R.a10.IsWhole) (harg11 : R.a11.IsWhole) (harg12 : R.a12.IsWhole) (harg13 : R.a13.IsWhole) (harg14 : R.a14.IsWhole) (harg15 : R.a15.IsWhole) (harg16 : R.a16.IsWhole) (harg17 : R.a17.IsWhole) (harg18 : R.a18.IsWhole) (harg19 : R.a19.IsWhole) (harg20 : R.a20.IsWhole) (harg21 : R.a21.IsWhole) (harg22 : R.a22.IsWhole) : cc0__body (F := F) i R.a1 harg1 R.a2 harg2 R.a3 harg3 R.a4 harg4 R.a5 harg5 R.a6 harg6 R.a7 harg7 R.a8 harg8 R.a9 harg9 R.a10 harg10 R.a11 harg11 R.a12 harg12 R.a13 harg13 R.a14 harg14 R.a15 harg15 R.a16 harg16 R.a17 harg17 R.a18 harg18 R.a19 harg19 R.a20 harg20 R.a21 harg21 R.a22 harg22 = K01.body ⟨R.a1,R.a2,R.a3,R.a4,R.a5,R.a6,R.a7,R.a8,R.a9,R.a10,R.a11,R.a12,R.a13,R.a14,R.a15,R.a16,R.a17,R.a18,R.a19,R.a20,R.a21,R.a22,harg8,harg12⟩ (i 0).val (i 0).isLt := by
  sl_kernel_rfl

theorem pt_lt (n : Nat) (hn : n < 144) : n < cfg0.N := lt_of_lt_of_eq hn N_0.symm
theorem lt_pt (t : Fin cfg0.N) : t.val < 144 := lt_of_lt_of_eq t.isLt N_0
theorem coord_eq : ∀ t : Fin grid0.N, (grid0.coords t 0).val = t.val := by decide

/-- The operands: the blocks of the arrays the region finds. -/
def opsOf (c : Dev nD) : K01.Ops F where
  C := iblk m c 0 ⟨0, pt_lt 0 (by decide)⟩
  x n hn := iblk m c 1 ⟨n, pt_lt n hn⟩
  r n hn := iblk m c 2 ⟨n, pt_lt n hn⟩
  pm := iblk m c 3 ⟨0, pt_lt 0 (by decide)⟩
  p2 := iblk m c 4 ⟨0, pt_lt 0 (by decide)⟩
  g := iblk m c 5 ⟨0, pt_lt 0 (by decide)⟩
  b := iblk m c 6 ⟨0, pt_lt 0 (by decide)⟩

/-- The operands that do not move with the grid point have one block. -/
theorem iblk_const0 (c : Dev nD) (t t' : Fin cfg0.N) : iblk m c 0 t = iblk m c 0 t' := rfl
theorem iblk_const3 (c : Dev nD) (t t' : Fin cfg0.N) : iblk m c 3 t = iblk m c 3 t' := rfl
theorem iblk_const4 (c : Dev nD) (t t' : Fin cfg0.N) : iblk m c 4 t = iblk m c 4 t' := rfl
theorem iblk_const5 (c : Dev nD) (t t' : Fin cfg0.N) : iblk m c 5 t = iblk m c 5 t' := rfl
theorem iblk_const6 (c : Dev nD) (t t' : Fin cfg0.N) : iblk m c 6 t = iblk m c 6 t' := rfl

/-- The scratch buffers between grid points. -/
abbrev held (c : Dev nD) (n : Nat) : sProp 𝕄 :=
  K01.scratch c (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) (Memref.whole cc0_scratch9) (opsOf m c) n

/-- The proof data: after grid point `t` each operand's buffer holds its block, each result's the kernel's values there; the
    scratch buffers carry the restaged statistics and the merged ones. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (opsOf m c).codes t.val (lt_pt t)
    | ⟨8, _⟩ => (opsOf m c).scl t.val (lt_pt t)
    | ⟨9, _⟩ => (opsOf m c).mOut
    | ⟨10, _⟩ => (opsOf m c).rOut
    | ⟨11, _⟩ => (opsOf m c).h t.val (lt_pt t)
  Φ t := iprop(held m c t.val ∗ ∃ r, prngReg c r)
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (opsOf m c).codes t.val (lt_pt t) := by dsimp only [dats]
theorem after0_8 (c : Dev nD) (t : Fin cfg0.N) : (dats m 0 c).after 8 t = (opsOf m c).scl t.val (lt_pt t) := by dsimp only [dats]
theorem after0_9 (c : Dev nD) (t : Fin cfg0.N) : (dats m 0 c).after 9 t = (opsOf m c).mOut := by dsimp only [dats]
theorem after0_10 (c : Dev nD) (t : Fin cfg0.N) : (dats m 0 c).after 10 t = (opsOf m c).rOut := by dsimp only [dats]
theorem after0_11 (c : Dev nD) (t : Fin cfg0.N) : (dats m 0 c).after 11 t = (opsOf m c).h t.val (lt_pt t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-! ## The body at a grid point -/

/-- The buffers the body is called with at point `t`. -/
abbrev argsAt (t : Fin cfg0.N) : K01.Args sig :=
  ⟨st0_0 t, st0_1 t, st0_2 t, st0_3 t, st0_4 t, st0_5 t, st0_6 t, st0_7 t, st0_8 t, st0_9 t, st0_10 t, st0_11 t,
    Memref.whole cc0_scratch0, Memref.whole cc0_scratch1, Memref.whole cc0_scratch2, Memref.whole cc0_scratch3, Memref.whole cc0_scratch4,
    Memref.whole cc0_scratch5, Memref.whole cc0_scratch6, Memref.whole cc0_scratch7, Memref.whole cc0_scratch8, Memref.whole cc0_scratch9,
    hstage0_7 ((cfg0.slots t 7).cast nbuf0_7), hstage0_11 ((cfg0.slots t 11).cast nbuf0_11)⟩

theorem bodyAt_eq (t : Fin cfg0.N) : (bodyAt0 (F := F) t) = K01.body (argsAt t) t.val (lt_pt t) := by
  have e : ∀ n (hn : n < 144), n = t.val → K01.body (F := F) (Λ₀ := Λ₀) (nD := nD) (τ := τ) (argsAt t) n hn = K01.body (argsAt t) t.val (lt_pt t) := by
    rintro n hn rfl; rfl
  exact (body_eq (F := F) (grid0.coords t) (argsAt t) _ _ _ _ _ _ _ _ _ _ _ _ _ _ _ _ _ _ _ _ _ _).trans (e _ _ (coord_eq t))

/-- The body's triple at point `t`, over what the two buffers of statistics results are found at and left at. -/
theorem sound (c : Dev nD) (t : Fin cfg0.N) (X0 Y0 X Y : FVec F S12x3072 .f32) (hX : t.val ≠ 143 → X0 = X) (hY : t.val ≠ 143 → Y0 = Y)
    (hX' : t.val = 143 → X = (opsOf m c).mOut) (hY' : t.val = 143 → Y = (opsOf m c).rOut) :
    (K01.callPre c (argsAt t) (opsOf m c) t.val (lt_pt t) X0 Y0 : sProp 𝕄)
      ⊢ wp frame (wpE (defs₀ (F := F)) Variants.none c none) Set.univ (bodyAt0 t) fun _ => K01.callPost c (argsAt t) (opsOf m c) t.val (lt_pt t) X Y := by
  rw [bodyAt_eq]
  exact K01.point (Ix := Unit) (Name := ℕ) (U := UR sig nD τ) (Lvl := ℕ) (defs₀ (F := F)) Variants.none c Set.univ (argsAt t) (opsOf m c) t.val (lt_pt t) X0 Y0 X Y hX hY hX' hY'

theorem defs₀_row (t : Fin cfg0.N) :
    defs₀ (F := F) .tc cfg0.body (cfg0.bodyArgs t (cfg0.slots t)) = bodyAt0 t := by
  unfold defs₀; rw [Defs.onTc_tc]

/-- The statistics results are idle exactly before the last point. -/
theorem idle_iff (t : Fin cfg0.N) : (k0_cond2 (grid0.coords t) == 1#1) = decide (t.val = 143) := by
  have e : k0_cond2 (grid0.coords t) = K01.isLast (grid0.coords t 0).val := rfl
  rw [e, coord_eq]
  have := K01.isLast_iff ⟨t.val, lt_pt t⟩
  dsimp only at this
  by_cases h : t.val = 143
  · rw [this.mpr h, decide_eq_true h]; rfl
  · rw [decide_eq_false h]; exact beq_eq_false_iff_ne.mpr fun e => h (this.mp e)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: the two buffers of statistics results at `X` and `Y`. -/
def bodyPost (c : Dev nD) (t : Fin cfg0.N) (P9 P10 : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ P9 ∗ P10
    ∗ owns (c : Thread nD τ) (st0_11 t) fullShare ((dats m 0 c).after 11 t))

theorem sound_body (c : Dev nD) (t : Fin cfg0.N) (P9 P10 : sProp 𝕄) (X Y : FVec F S12x3072 .f32 → FVec F S12x3072 .f32)
    (hX : t.val ≠ 143 → ∀ Z, Z = X Z) (hY : t.val ≠ 143 → ∀ Z, Z = Y Z)
    (hX' : t.val = 143 → ∀ Z, X Z = (opsOf m c).mOut) (hY' : t.val = 143 → ∀ Z, Y Z = (opsOf m c).rOut)
    (h9 : ∀ d, owns (c : Thread nD τ) (st0_9 t) fullShare (X ((dats m 0 c).before 9 t d)) ⊢ P9)
    (h10 : ∀ d, owns (c : Thread nD τ) (st0_10 t) fullShare (Y ((dats m 0 c).before 10 t d)) ⊢ P10) :
    bodyPre m c t ⊢ wp frame (wpE (defs₀ (F := F)) Variants.none c none) Set.univ (bodyAt0 t) (fun _ => bodyPost m c t P9 P10) := by
  unfold bodyPre
  simp only [before0_0, before0_1, before0_2, before0_3, before0_4, before0_5, before0_6]
  rw [show (dats m 0 c).Φ t.castSucc = iprop(held m c t.val ∗ ∃ r, prngReg c r) from rfl]
  iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r _ (wpE (defs₀ (F := F)) Variants.none c none) Set.univ (p := bodyAt0 t)
    (Q := fun _ => K01.callPost c (argsAt t) (opsOf m c) t.val (lt_pt t) (X ((dats m 0 c).before 9 t d9)) (Y ((dats m 0 c).before 10 t d10))))
  isplitl [H0 H1 H2 H3 H4 H5 H6 H7 H8 H9 H10 H11 Hs]
  · iapply (sound m c t ((dats m 0 c).before 9 t d9) ((dats m 0 c).before 10 t d10) (X ((dats m 0 c).before 9 t d9)) (Y ((dats m 0 c).before 10 t d10))
      (fun h => hX h _) (fun h => hY h _) (fun h => hX' h _) (fun h => hY' h _))
    unfold K01.callPre
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexists _; iexact H11
    iexact Hs
  iintro %a
  unfold K01.callPost bodyPost
  iintro ⟨H0, H1, H2, H3, H4, H5, H6, H7, H8, H9, H10, H11, Hs⟩
  rw [show (dats m 0 c).Φ t.succ = iprop(held m c (t.val + 1) ∗ ∃ r, prngReg c r) from rfl,
    show (dats m 0 c).owesAt () t.succ = (dats m 0 c).owesAt () t.castSucc from rfl,
    after0_0, after0_1, after0_2, after0_3, after0_4, after0_5, after0_6, after0_7, after0_8, after0_11]
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (h9 d9) $$ H9
  isplitl [H10]; · iapply (h10 d10) $$ H10
  iexact H11

theorem idle9_of (t : Fin cfg0.N) (b : Bool) (h : decide (t.val = 143) = !b) : cfg0.idle 9 (cfg0.grid.coords t) = b := by
  show (!(k0_cond2 (grid0.coords t) == 1#1)) = b
  rw [idle_iff, h, Bool.not_not]
theorem idle10_of (t : Fin cfg0.N) (b : Bool) (h : decide (t.val = 143) = !b) : cfg0.idle 10 (cfg0.grid.coords t) = b := by
  show (!(k0_cond2 (grid0.coords t) == 1#1)) = b
  rw [idle_iff, h, Bool.not_not]

theorem leavesExact_live {c : Dev nD} (dat : Dat τ (Elt F) Unit ℕ (UR sig nD τ) ℕ cfg0 c) (w : Fin cfg0.W) (t : Fin cfg0.N) (hi : cfg0.idle w (cfg0.grid.coords t) = false) :
    dat.leavesExact w t = owns c ((cfg0.win w).stage (cfg0.slots t w)) fullShare (dat.after w t) := by
  unfold Dat.leavesExact; rw [hi]

theorem obligation_at (c : Dev nD) (t : Fin cfg0.N) :
    bodyPre m c t ⊢ wp frame (wpE (defs₀ (F := F)) Variants.none c none) Set.univ (bodyAt0 t)
      (fun _ => bodyPost m c t ((dats m 0 c).leavesExact 9 t) ((dats m 0 c).leavesExact 10 t)) := by
  have ht := lt_pt t
  by_cases h : t.val = 143
  · refine sound_body m c t _ _ (fun _ => (opsOf m c).mOut) (fun _ => (opsOf m c).rOut) (fun h' => (h' h).elim) (fun h' => (h' h).elim) (fun _ _ => rfl) (fun _ _ => rfl) (fun d => ?_) (fun d => ?_)
    · rw [leavesExact_live (dats m 0 c) 9 t (idle9_of t false (by rw [decide_eq_true h]; rfl)), after0_9]
    · rw [leavesExact_live (dats m 0 c) 10 t (idle10_of t false (by rw [decide_eq_true h]; rfl)), after0_10]
  · refine sound_body m c t _ _ id id (fun _ _ => rfl) (fun _ _ => rfl) (fun h' => (h h').elim) (fun h' => (h h').elim) (fun d => ?_) (fun d => ?_)
    · rw [(dats m 0 c).leavesExact_idle 9 t (idle9_of t true (by rw [decide_eq_false h]; rfl)) (Bool.eq_false_iff.mpr fun e => h (by have := (flush0_9 t).mp e; omega))]
      iintro H; iexists d; iexact H
    · rw [(dats m 0 c).leavesExact_idle 10 t (idle10_of t true (by rw [decide_eq_false h]; rfl)) (Bool.eq_false_iff.mpr fun e => h (by have := (flush0_10 t).mp e; omega))]
      iintro H; iexists d; iexact H

/-- The body obligation, at every point. -/
theorem body_obligation (c : Dev nD) : BodyObligation (dats (F := F) m 0 c) (defs₀ (F := F)) Variants.none () Set.univ := fun t => by
  rw [bigSep_W0, bigSep_W0, defs₀_row]
  exact triple_restated (obligation_at m c t) rfl .rfl fun _ => .rfl

/-! ## The run and the frame -/

/-- What the region hands over is what the first point needs: nothing is known of the scratch buffers. -/
theorem hin (c : Dev nD) : (Pipeline.ΦA spec0 c : sProp 𝕄) ⊢ (dats m 0 c).Φ 0 := by
  rw [show (dats m 0 c).Φ 0 = iprop(held m c 0 ∗ ∃ r, prngReg c r) from rfl]
  unfold Pipeline.ΦA held K01.scratch
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hp⟩
  isplitr [Hp]
  · iexists f0, f1, f2, f3, f4, f5, f6, f7, f8, f9
    isplitr
    · ipureintro
      exact ⟨fun h => (h rfl).elim, fun h => (h rfl).elim, fun _ h => absurd h (Nat.not_lt_zero _), fun _ h => absurd h (Nat.not_lt_zero _)⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hp

theorem hout (c : Dev nD) : (dats m 0 c).Φ (Fin.last cfg0.N) ⊢ (Pipeline.ΦA spec0 c : sProp 𝕄) := by
  rw [show (dats m 0 c).Φ (Fin.last cfg0.N) = iprop(held m c cfg0.N ∗ ∃ r, prngReg c r) from rfl]
  unfold Pipeline.ΦA held K01.scratch
  rw [scopedRest0_eq]
  simp only [owns_whole]
  iintro ⟨⟨%f0, %f1, %f2, %f3, %f4, %f5, %f6, %f7, %f8, %f9, -, H0, H1, H2, H3, H4, H5, H6, H7, H8, H9⟩, Hp⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    isplitl [H8]; · iexists f8; iexact H8
    iexists f9; iexact H9
  · iexact Hp

set_option backward.isDefEq.respectTransparency.types false in
/-- The run: every array of the pipeline ends at what the proof data computes, every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Proof.RunIdeal

end
-- ==== Proof.Scale.lean ====
/-
  The scale of a block over the extended reals: the exponent field found by the search is the exponent of the power of two
  that the reference computes with a logarithm.
-/
module

public import proofs.«01_k».proof.Proof.Contents
public import Idealize.ShloMosaic.PureOps.Ideal
public import Mathlib.Analysis.SpecialFunctions.Log.Basic

@[expose] public section

noncomputable section

namespace K01

open Idealize.ShloMosaic

/-! ## The numbers with an exponent field and no fraction -/

/-- The number whose exponent field is `k`, its fraction zero. -/
def P (k : Nat) : EReal := Ideal.ofBits .f32 (BitVec.ofNat 32 k <<< 23)

theorem word_sign : ∀ k : Fin 256, ((BitVec.ofNat 32 k.val <<< 23).extractLsb' (8 + 23) 1 == 1#1) = false := by decide
theorem word_exp : ∀ k : Fin 256, ((BitVec.ofNat 32 k.val <<< 23).extractLsb' 23 8).toNat = k.val := by decide
theorem word_frac : ∀ k : Fin 256, ((BitVec.ofNat 32 k.val <<< 23).extractLsb' 0 23).toNat = 0 := by decide

theorem P_eq (k : Nat) (h : k < 256) : P k = if k = 255 then ⊤ else if k = 0 then 0 else (((2 : ℝ) ^ ((k : ℤ) - 127) : ℝ) : EReal) := by
  unfold P Ideal.ofBits Ideal.ieee
  simp only [word_sign ⟨k, h⟩, word_exp ⟨k, h⟩, word_frac ⟨k, h⟩]
  by_cases h1 : k = 255
  · subst h1; simp
  by_cases h0 : k = 0
  · subst h0; simp
  · have hk : ¬ k = 2 ^ 8 - 1 := h1
    rw [if_neg hk, if_neg h0, if_neg h1, if_neg h0]
    refine congrArg Real.toEReal ?_
    have e : ((k : ℤ) - 127) = (23 : ℤ) + ((k : ℤ) - (2 ^ (8 - 1) - 1) - (23 : ℕ)) := by push_cast; ring
    rw [e, zpow_add₀ (by norm_num : ((2 : ℝ)) ≠ 0)]
    norm_num

theorem P_zero : P 0 = 0 := by rw [P_eq 0 (by decide)]; simp
theorem P_top : P 255 = ⊤ := by rw [P_eq 255 (by decide)]; simp
theorem P_mid {k : Nat} (h0 : k ≠ 0) (h : k < 255) : P k = (((2 : ℝ) ^ ((k : ℤ) - 127) : ℝ) : EReal) := by
  rw [P_eq k (by omega), if_neg (by omega), if_neg h0]

theorem shl_eq (x : BitVec 32) : IntOp.shli ArithUnit.vector x 23#32 = x <<< 23 := by
  unfold IntOp.shli
  rw [if_pos (by decide)]
  rfl

/-! ## The search -/

theorem step_spec {v : EReal} {c f : Nat} {w : BitVec 32} (hw : w = BitVec.ofNat 32 f) (hle : P f ≤ v) (hlt : f + 2 * c = 256 ∨ v < P (f + 2 * c)) :
    ∃ f', fieldStepS (F := Ideal) v (BitVec.ofNat 32 c) w = BitVec.ofNat 32 f' ∧ f' ≤ f + c ∧ P f' ≤ v ∧ (f' + c = 256 ∨ v < P (f' + c)) := by
  subst hw
  have e : IntOp.addi (BitVec.ofNat 32 f) (BitVec.ofNat 32 c) = BitVec.ofNat 32 (f + c) := by unfold IntOp.addi; rw [BitVec.ofNat_add]
  unfold fieldStepS
  rw [e, shl_eq]
  by_cases h : P (f + c) ≤ v
  · refine ⟨f + c, ?_, le_rfl, h, ?_⟩
    · have hc : FloatOps.cmpf (F := Ideal) (φ := .f32) .oge v (FloatOps.ofBits .f32 (BitVec.ofNat 32 (f + c) <<< 23)) = 1#1 := by
        show BitVec.ofBool (decide (P (f + c) ≤ v)) = 1#1
        rw [decide_eq_true h]; rfl
      rw [hc]; rfl
    · rw [show f + c + c = f + 2 * c by ring]; exact hlt
  · refine ⟨f, ?_, by omega, hle, Or.inr (not_le.mp h)⟩
    have hc : FloatOps.cmpf (F := Ideal) (φ := .f32) .oge v (FloatOps.ofBits .f32 (BitVec.ofNat 32 (f + c) <<< 23)) = 0#1 := by
      show BitVec.ofBool (decide (P (f + c) ≤ v)) = 0#1
      rw [decide_eq_false h]; rfl
    rw [hc]; rfl

/-- The search finds the last exponent field whose number is at most `v`. -/
theorem search_spec {v : EReal} (hv : 0 ≤ v) : ∃ f, f < 256 ∧ P f ≤ v ∧ (f = 255 ∨ v < P (f + 1)) ∧
    fieldStepS (F := Ideal) v 1#32 (fieldStepS (F := Ideal) v 2#32 (fieldStepS (F := Ideal) v 4#32 (fieldStepS (F := Ideal) v 8#32 (fieldStepS (F := Ideal) v 16#32 (fieldStepS (F := Ideal) v 32#32
      (fieldStepS (F := Ideal) v 64#32 (fieldStepS (F := Ideal) v 128#32 0#32))))))) = BitVec.ofNat 32 f := by
  obtain ⟨f1, e1, b1, l1, u1⟩ := step_spec (v := v) (c := 128) (f := 0) (w := 0#32) rfl (by rw [P_zero]; exact hv) (Or.inl rfl)
  obtain ⟨f2, e2, b2, l2, u2⟩ := step_spec (c := 64) e1 l1 u1
  obtain ⟨f3, e3, b3, l3, u3⟩ := step_spec (c := 32) e2 l2 u2
  obtain ⟨f4, e4, b4, l4, u4⟩ := step_spec (c := 16) e3 l3 u3
  obtain ⟨f5, e5, b5, l5, u5⟩ := step_spec (c := 8) e4 l4 u4
  obtain ⟨f6, e6, b6, l6, u6⟩ := step_spec (c := 4) e5 l5 u5
  obtain ⟨f7, e7, b7, l7, u7⟩ := step_spec (c := 2) e6 l6 u6
  obtain ⟨f8, e8, b8, l8, u8⟩ := step_spec (c := 1) e7 l7 u7
  exact ⟨f8, by omega, l8, by rcases u8 with h | h; · exact Or.inl (by omega)
                              · exact Or.inr h, e8⟩

/-! ## The exponent by a logarithm -/

/-- The exponent of the scale of a block whose scaled largest magnitude is `v`. -/
def expo (v : EReal) : EReal :=
  if v = 0 then 0 else min 120 (max (-126) (Ideal.liftRound Int.floor (Ideal.div (Ideal.log v) (Ideal.log 2)) + 1))

theorem pow_int (e : ℤ) : Ideal.pow 2 (((e : ℝ) : EReal)) = (((2 : ℝ) ^ e : ℝ) : EReal) := by
  show Ideal.pow ((2 : ℝ) : EReal) ((e : ℝ) : EReal) = _
  rw [Ideal.pow_coe_coe]
  exact congrArg _ (Real.rpow_intCast 2 e)

theorem log_two : Ideal.log 2 = ((Real.log 2 : ℝ) : EReal) := by
  show Ideal.log ((2 : ℝ) : EReal) = _
  unfold Ideal.log
  exact if_neg (by norm_num)

theorem log_quot {r : ℝ} (hr : 0 < r) : Ideal.div (Ideal.log (r : EReal)) (Ideal.log 2) = ((Real.log r / Real.log 2 : ℝ) : EReal) := by
  have h2 : Real.log 2 ≠ 0 := (Real.log_pos (by norm_num)).ne'
  rw [log_two, Ideal.div_coe h2]
  have : Ideal.log (r : EReal) = ((Real.log r : ℝ) : EReal) := by unfold Ideal.log; exact if_neg (not_le.mpr hr)
  rw [this, ← EReal.coe_mul]
  rw [mul_one_div]

theorem le_floor_log {r : ℝ} (hr : 0 < r) (k : ℤ) : k ≤ ⌊Real.log r / Real.log 2⌋ ↔ (2 : ℝ) ^ k ≤ r := by
  rw [Int.le_floor, le_div_iff₀ (Real.log_pos (by norm_num)), ← Real.log_zpow, Real.log_le_log_iff (by positivity) hr]

theorem expo_real {r : ℝ} (hr : 0 < r) : expo (r : EReal) = (((min 120 (max (-126) (⌊Real.log r / Real.log 2⌋ + 1)) : ℤ) : ℝ) : EReal) := by
  unfold expo
  rw [if_neg (by exact_mod_cast hr.ne'), log_quot hr]
  show min ((120 : ℝ) : EReal) (max ((-126 : ℝ) : EReal) (((⌊Real.log r / Real.log 2⌋ : ℝ) : EReal) + ((1 : ℝ) : EReal))) = _
  rw [← EReal.coe_add, ← Monotone.map_max (fun a b h => EReal.coe_le_coe_iff.mpr h), ← Monotone.map_min (fun a b h => EReal.coe_le_coe_iff.mpr h)]
  push_cast
  rfl

theorem expo_top : expo ⊤ = (((120 : ℤ) : ℝ) : EReal) := by
  unfold expo
  have h2 : (0 : ℝ) < 1 / Real.log 2 := by have := Real.log_pos (by norm_num : (1 : ℝ) < 2); positivity
  rw [if_neg (by simp), log_two, Ideal.div_coe (Real.log_pos (by norm_num)).ne', show Ideal.log ⊤ = ⊤ from rfl, EReal.top_mul_coe_of_pos h2]
  show min ((120 : ℝ) : EReal) (max ((-126 : ℝ) : EReal) (⊤ + ((1 : ℝ) : EReal))) = _
  rw [EReal.top_add_coe]
  simp

/-- The field of a scale is its exponent plus 127. -/
theorem field_spec {v : EReal} (hv : 0 ≤ v) : ∃ k : Nat, 1 ≤ k ∧ k ≤ 247 ∧ fieldS (F := Ideal) v = BitVec.ofNat 32 k ∧ expo v = ((((k : ℤ) - 127 : ℤ) : ℝ) : EReal) := by
  by_cases h0 : v = 0
  · refine ⟨127, by decide, by decide, ?_, ?_⟩
    · unfold fieldS
      have hc : FloatOps.cmpf (F := Ideal) (φ := .f32) .oeq v (FloatOps.ofBits .f32 0x00000000#32) = 1#1 := by
        show BitVec.ofBool (decide (v = Ideal.ofBits .f32 0x00000000#32)) = 1#1
        rw [show Ideal.ofBits .f32 0x00000000#32 = 0 from by simp [Ideal.ofBits, Ideal.ieee], decide_eq_true h0]; rfl
      rw [hc]; rfl
    · unfold expo; rw [if_pos h0]; simp
  · obtain ⟨f, hf, hl, hu, e⟩ := search_spec hv
    have hm : IntOp.addi (IntOp.minsi (BitVec.ofNat 32 f) 246#32) 1#32 = BitVec.ofNat 32 (min f 246 + 1) := by
      have := (by decide : ∀ f : Fin 256, IntOp.addi (IntOp.minsi (BitVec.ofNat 32 f.val) 246#32) 1#32 = BitVec.ofNat 32 (min f.val 246 + 1))
      exact this ⟨f, hf⟩
    refine ⟨min f 246 + 1, by omega, by omega, ?_, ?_⟩
    · unfold fieldS
      have hc : FloatOps.cmpf (F := Ideal) (φ := .f32) .oeq v (FloatOps.ofBits .f32 0x00000000#32) = 0#1 := by
        show BitVec.ofBool (decide (v = Ideal.ofBits .f32 0x00000000#32)) = 0#1
        rw [show Ideal.ofBits .f32 0x00000000#32 = 0 from by simp [Ideal.ofBits, Ideal.ieee], decide_eq_false h0]; rfl
      rw [hc, e, hm]; rfl
    · by_cases ht : v = ⊤
      · subst ht
        have : f = 255 := by
          rcases hu with h | h
          · exact h
          · exact absurd h not_top_lt
        subst this
        rw [expo_top]; norm_num
      · have hb : v ≠ ⊥ := fun h => by rw [h] at hv; simp at hv
        lift v to ℝ using ⟨ht, hb⟩
        have hr : 0 < v := lt_of_le_of_ne (by exact_mod_cast hv) (fun h => h0 (by rw [← h]; rfl))
        have hf' : f ≠ 255 := fun h => by rw [h, P_top] at hl; simp at hl
        have hup : f = 254 ∨ v < (2 : ℝ) ^ ((f : ℤ) + 1 - 127) := by
          rcases hu with h | h
          · exact absurd h hf'
          · by_cases h4 : f = 254
            · exact Or.inl h4
            · rw [P_mid (by omega) (by omega)] at h
              exact Or.inr (by have := EReal.coe_lt_coe_iff.mp h; push_cast at this; exact this)
        have hlo : f = 0 ∨ (2 : ℝ) ^ ((f : ℤ) - 127) ≤ v := by
          by_cases h : f = 0
          · exact Or.inl h
          · rw [P_mid h (by omega)] at hl
            exact Or.inr (EReal.coe_le_coe_iff.mp hl)
        rw [expo_real hr]
        have hfl : f = 0 ∨ (f : ℤ) - 127 ≤ ⌊Real.log v / Real.log 2⌋ := hlo.imp_right fun h => by
          exact (le_floor_log hr _).mpr h
        have hfu : f = 254 ∨ ⌊Real.log v / Real.log 2⌋ < (f : ℤ) + 1 - 127 := hup.imp_right fun h => by
          exact not_le.mp fun hn => absurd ((le_floor_log hr _).mp hn) (not_le.mpr h)
        refine congrArg (fun z : ℤ => ((z : ℝ) : EReal)) ?_
        push_cast
        omega

/-- The scale is the power of two of its exponent, and the factor of the codes the power of two of its negation. -/
theorem scale_pow {v : EReal} (hv : 0 ≤ v) : Ideal.ofBits .f32 (IntOp.shli ArithUnit.vector (fieldS (F := Ideal) v) 23#32) = Ideal.pow 2 (expo v) := by
  obtain ⟨k, h1, h2, e, ex⟩ := field_spec hv
  rw [shl_eq, e, ex, pow_int]
  exact P_mid (by omega) (by omega)

theorem inv_pow {v : EReal} (hv : 0 ≤ v) :
    Ideal.ofBits .f32 (IntOp.shli ArithUnit.vector (IntOp.subi 254#32 (fieldS (F := Ideal) v)) 23#32) = Ideal.pow 2 (-(expo v)) := by
  obtain ⟨k, h1, h2, e, ex⟩ := field_spec hv
  have hs : IntOp.subi 254#32 (BitVec.ofNat 32 k) = BitVec.ofNat 32 (254 - k) := by
    have := (by decide : ∀ k : Fin 255, IntOp.subi 254#32 (BitVec.ofNat 32 k.val) = BitVec.ofNat 32 (254 - k.val))
    exact this ⟨k, by omega⟩
  rw [shl_eq, e, ex, hs, ← EReal.coe_neg, ← Int.cast_neg, pow_int]
  refine (P_mid (by omega) (by omega)).trans ?_
  congr 2
  omega

end K01
-- ==== Proof.Math.lean ====
/-
  What the layer norm, the merge and the block scaling compute for one token, over the extended reals.
-/
module

public import proofs.«01_k».proof.Proof.Scale

@[expose] public section

noncomputable section

namespace K01

open Idealize.ShloMosaic

/-- The number of features of a rank, 4608, as both programs write it. -/
def NL : EReal := Ideal.ofBits .f32 0x45900000#32

/-- The mean of a rank's features of one token. -/
def mu (h : Fin 4608 → EReal) : EReal := Ideal.div (∑ j, h j) NL

/-- The sum of the squared deviations from the mean. -/
def dev (h : Fin 4608 → EReal) : EReal := ∑ j, (h j - mu h) * (h j - mu h)

/-- One rank's mean merged into another's. -/
def mgM (n n' m m' : EReal) : EReal := m + (m' - m) * Ideal.div n' (n + n')

/-- One rank's sum of squared deviations merged into another's. -/
def mgQ (n n' m m' q q' : EReal) : EReal := q + q' + (m' - m) * (m' - m) * Ideal.div (n * n') (n + n')

/-- The other ranks' statistics of one token. -/
structure Peers where
  n : Fin 3 → EReal
  m : Fin 3 → EReal
  q : Fin 3 → EReal

namespace Peers
variable (P : Peers)

def n01 : EReal := P.n 0 + P.n 1
def n012 : EReal := P.n01 + P.n 2
def nAll : EReal := P.n012 + NL
def m01 : EReal := mgM (P.n 0) (P.n 1) (P.m 0) (P.m 1)
def m012 : EReal := mgM P.n01 (P.n 2) P.m01 (P.m 2)
def q01 : EReal := mgQ (P.n 0) (P.n 1) (P.m 0) (P.m 1) (P.q 0) (P.q 1)
def q012 : EReal := mgQ P.n01 (P.n 2) P.m01 (P.m 2) P.q01 (P.q 2)

/-- The mean over all ranks, `ml` the local one. -/
def mean (ml : EReal) : EReal := mgM P.n012 NL P.m012 ml

/-- The sum of squared deviations over all ranks. -/
def m2 (ml ql : EReal) : EReal := mgQ P.n012 NL P.m012 ml P.q012 ql

/-- The reciprocal standard deviation over all ranks. -/
def rstd (ml ql : EReal) : EReal := Ideal.rsqrt (Ideal.div (P.m2 ml ql) P.nAll + Ideal.ofBits .f32 0x3727C5AC#32)

end Peers

/-- A normalised feature. -/
def yS (h m r g b : EReal) : EReal := (h - m) * r * g + b

/-- The largest magnitude of a block of 128 features. -/
def amS (y : Fin 128 → EReal) : EReal := Finset.univ.fold max (Ideal.ofBits .f32 0xFF800000#32) fun k => (FloatOps.absf (F := Ideal) (φ := .f32) (y k) : EReal)

/-- The exponent of a block's scale. -/
def exS (a : EReal) : EReal := expo (a * Ideal.ofBits .f32 0x3B124925#32)

def sclS (a : EReal) : EReal := Ideal.pow 2 (exS a)

/-- A feature divided by its block's scale and clipped. -/
def codeS (y a : EReal) : EReal :=
  min (Ideal.ofBits .f32 0x43E00000#32) (max (Ideal.ofBits .f32 0xC3E00000#32) (y * Ideal.pow 2 (-(exS a))))

theorem ereal_abs_nonneg (x : EReal) : 0 ≤ (FloatOps.absf (F := Ideal) (φ := .f32) x : EReal) := by
  show (0 : EReal) ≤ max x (-x)
  rcases le_total 0 x with h | h
  · exact h.trans (le_max_left _ _)
  · exact (EReal.neg_nonneg.mpr h).trans (le_max_right _ _)

theorem amS_nonneg (y : Fin 128 → EReal) : 0 ≤ amS y :=
  (ereal_abs_nonneg (y 0)).trans (Finset.le_fold_max _ |>.mpr (Or.inr ⟨0, Finset.mem_univ _, le_rfl⟩))

theorem scaled_nonneg {a : EReal} (h : 0 ≤ a) : 0 ≤ a * Ideal.ofBits .f32 0x3B124925#32 :=
  mul_nonneg h (by
    have e1 : ((0x3B124925#32).extractLsb' (8 + 23) 1 == 1#1) = false := by decide
    have e2 : ((0x3B124925#32).extractLsb' 23 8).toNat = 118 := by decide
    unfold Ideal.ofBits Ideal.ieee
    simp only [e1, e2]
    rw [if_neg (by decide), if_neg (by decide)]
    refine EReal.coe_nonneg.mpr ?_
    rw [if_neg (by decide)]
    positivity)

/-! ## All tokens -/

/-- The arguments: the two row operands, the other ranks' statistics of each token, the gain and the bias. -/
structure In where
  x : Fin 12 → Fin 3072 → Fin 4608 → EReal
  r : Fin 12 → Fin 3072 → Fin 4608 → EReal
  P : Fin 12 → Fin 3072 → Peers
  g : Fin 4608 → EReal
  b : Fin 4608 → EReal

namespace In
variable (I : In) (a : Fin 12) (s : Fin 3072)

def h : Fin 4608 → EReal := fun j => I.x a s j + I.r a s j
def mean : EReal := (I.P a s).mean (mu (I.h a s))
def rstd : EReal := (I.P a s).rstd (mu (I.h a s)) (dev (I.h a s))
def y (j : Fin 4608) : EReal := yS (I.h a s j) (I.mean a s) (I.rstd a s) (I.g j) (I.b j)

/-- Feature `k` of block `j`. -/
def at36 (j : Fin 36) (k : Fin 128) : Fin 4608 := ⟨128 * j.val + k.val, by omega⟩
/-- A feature's block. -/
def blkOf (j : Fin 4608) : Fin 36 := ⟨j.val / 128, by omega⟩

def am (j : Fin 36) : EReal := amS fun k => I.y a s (at36 j k)
def scl (j : Fin 36) : EReal := sclS (I.am a s j)
def code (j : Fin 4608) : EReal := codeS (I.y a s j) (I.am a s (blkOf j))

end In

end K01
-- ==== Proof.KVal.lean ====
/-
  The kernel's vectors at an index, over the extended reals.
-/
module

public import proofs.«01_k».proof.Proof.Math
public import Idealize.ShloMosaic.Lib.Pointwise
public import Idealize.ShloMosaic.Lib.Pipeline.ValueKit.Acc

@[expose] public section

noncomputable section

namespace K01

open Idealize.ShloMosaic

theorem meanVec_apply (acc : FVec Ideal S32x128 .f32) (a : Fin 32) (l : Fin 128) :
    meanVec acc (ix2 a l) = Ideal.div (∑ k : Fin 128, (acc (ix2 a k) : EReal)) NL := by
  unfold meanVec NL
  pointwise

theorem sqVec_apply (hf mean : FVec Ideal S32x128 .f32) (i : S32x128.Idx) :
    sqVec hf mean i = ((hf i : EReal) - mean i) * ((hf i : EReal) - mean i) := rfl

theorem yVec_apply (hf mean rstd : FVec Ideal S32x128 .f32) (g b : FVec Ideal S1x128 .f32) (a : Fin 32) (l : Fin 128) :
    yVec hf mean rstd g b (ix2 a l) = yS (hf (ix2 a l)) (mean (ix2 a l)) (rstd (ix2 a l)) (g (ix2 0 l)) (b (ix2 0 l)) := by
  unfold yVec yS
  pointwise

theorem amaxVec_apply (y : FVec Ideal S32x128 .f32) (a : Fin 32) :
    amaxVec y (ix2 a 0) = amS fun k => y (ix2 a k) := by
  unfold amaxVec amS
  pointwise

theorem scaleS_eq {a : EReal} (h : 0 ≤ a) : scaleS (F := Ideal) a = sclS a := scale_pow (scaled_nonneg h)

theorem invVec_apply (a : FVec Ideal S32x1 .f32) (r : Fin 32) (l : Fin 128) (h : (0 : EReal) ≤ a (ix2 r 0)) :
    invVec a (ix2 r l) = Ideal.pow 2 (-(exS (a (ix2 r 0)))) := by
  have e : scaledMax (broadcastTo S32x128 (shapeCast S32x1 a (by decide)) (by decide)) (ix2 r l) = (a (ix2 r 0) : EReal) * Ideal.ofBits .f32 0x3B124925#32 := by
    unfold scaledMax
    pointwise
  refine Eq.trans ?_ (inv_pow (scaled_nonneg h))
  rw [← e, ← fieldVec_apply]
  rfl

theorem codeVec_apply (y inv : FVec Ideal S32x128 .f32) (i : S32x128.Idx) :
    codeVec y inv i = min (Ideal.ofBits .f32 0x43E00000#32) (max (Ideal.ofBits .f32 0xC3E00000#32) ((y i : EReal) * inv i)) := rfl

theorem sclVec_apply (v : FVec Ideal S32x128 .f32) (a : Fin 32) (j : Fin 36) (h : (0 : EReal) ≤ v (ix2 a ⟨j.val, by omega⟩)) :
    sclVec v (ix2 a j) = sclS (v (ix2 a ⟨j.val, by omega⟩)) := by
  rw [← scaleS_eq h]
  unfold sclVec
  pointwise
  rw [scale_apply]

theorem meanLoc_apply (s1 : FVec Ideal S128x128 .f32) (l : Fin 128) : meanLoc s1 (ix2 0 l) = s1 (ix2 l 0) := by
  unfold meanLoc
  pointwise

theorem m2Loc_apply (s2 : FVec Ideal S128x128 .f32) (l : Fin 128) : m2Loc s2 (ix2 0 l) = ∑ k : Fin 128, (s2 (ix2 l k) : EReal) := by
  unfold m2Loc
  pointwise

theorem statVec_apply (v : FVec Ideal S1x1x1x128 .f32) (l : Fin 128) : statVec v (ix2 0 l) = v (ix4 0 0 0 l) := by
  unfold statVec
  pointwise
theorem mtVec_apply (v : FVec Ideal S1x128 .f32) (l : Fin 128) : mtVec v (ix3 0 0 l) = v (ix2 0 l) := by
  unfold mtVec
  pointwise
theorem colVec_apply (v : FVec Ideal S1x128 .f32) (a l : Fin 128) : colVec v (ix2 a l) = v (ix2 0 a) := by
  unfold colVec
  pointwise
theorem slabVec_apply (v : FVec Ideal S3x12x128 .f32) (p : Fin 3) (a : Fin 12) (l : Fin 128) : slabVec v (ix4 p 0 a l) = v (ix3 p a l) := by
  unfold slabVec
  pointwise
theorem planeVec_apply (v : FVec Ideal S1x12x128 .f32) (a : Fin 12) (l : Fin 128) : planeVec v (ix2 a l) = v (ix3 0 a l) := by
  unfold planeVec
  pointwise

theorem accum_apply {s : Shape} {N : Nat} (v : ∀ j, j < N → FVec Ideal s .f32) (i : s.Idx) : ∀ n (hn : n < N),
    accum v n hn i = ∑ j : Fin (n + 1), (v j.val (lt_of_lt_of_le j.isLt hn) i : EReal)
  | 0, hn => by
    rw [Fin.sum_univ_one]; rfl
  | n + 1, hn => by
    rw [Fin.sum_univ_castSucc]
    show (accum v n _ i : EReal) + v (n + 1) hn i = _
    rw [accum_apply v i n]
    rfl

/-- A sum over 36 blocks of 128 lanes is the sum over the 4608 features. -/
theorem sum_blocks (f : Fin 4608 → EReal) :
    ∑ j : Fin 36, ∑ k : Fin 128, f ⟨128 * j.val + k.val, by omega⟩ = ∑ l : Fin 4608, f l := by
  have h := Fin.sum_univ_univ_mul_add (M := EReal) 36 128 (fun n : ℕ => if h : n < 4608 then f ⟨n, h⟩ else (0 : EReal))
  refine Eq.trans ?_ (h.trans ?_)
  · refine Finset.sum_congr rfl fun j _ => Finset.sum_congr rfl fun k _ => ?_
    rw [dif_pos (by omega)]
    exact congrArg f (Fin.ext (by dsimp only; omega))
  · refine Finset.sum_congr rfl fun l _ => ?_
    rw [dif_pos l.isLt]

/-- A token's statistics of the other ranks, as the tile reads them. -/
def peersAt (C : S3.Idx → Elt Ideal .f32) (M Q : FVec Ideal S3x24x12x128 .f32) (ck : Fin 24) (rw : Fin 12) (l : Fin 128) : Peers where
  n p := C (ix1 p)
  m p := M (ix4 p ck rw l)
  q p := Q (ix4 p ck rw l)

theorem cntOf_eq (C : S3.Idx → Elt Ideal .f32) (p : Fin 3) : cntOf C p.val p.isLt = C (ix1 p) := by
  unfold cntOf
  refine congrArg C ?_
  funext a
  fin_cases a
  exact Fin.ext (by show p.val + 1 * 0 = p.val; omega)

theorem statOf_eq (M : FVec Ideal S3x24x12x128 .f32) (p : Fin 3) (ck : Fin 24) (w : Fin 12) (l : Fin 128) :
    statVec (statOf M p.val ck.val w.val p.isLt ck.isLt w.isLt) (ix2 0 l) = M (ix4 p ck w l) := by
  rw [statVec_apply]
  refine congrArg M ?_
  funext a
  fin_cases a
  · exact Fin.ext (by show p.val + 1 * 0 = p.val; omega)
  · exact Fin.ext (by show ck.val + 1 * 0 = ck.val; omega)
  · exact Fin.ext (by show w.val + 1 * 0 = w.val; omega)
  · exact Fin.ext (by show 0 + 1 * l.val = l.val; omega)

theorem meanAt_apply (C : S3.Idx → Elt Ideal .f32) (M Q : FVec Ideal S3x24x12x128 .f32) (ck : Fin 24) (w : Fin 12) (ml : FVec Ideal S1x128 .f32) (l : Fin 128) :
    meanAt C M ck.val w.val ck.isLt w.isLt ml (ix2 0 l) = (peersAt C M Q ck w l).mean (ml (ix2 0 l)) := by
  have e0 := statOf_eq M 0 ck w l
  have e1 := statOf_eq M 1 ck w l
  have e2 := statOf_eq M 2 ck w l
  unfold Peers.mean Peers.m012 Peers.m01 Peers.n012 Peers.n01 peersAt
  dsimp only
  rw [← e0, ← e1, ← e2, ← cntOf_eq C 0, ← cntOf_eq C 1, ← cntOf_eq C 2]
  rfl

theorem rstdAt_apply (C : S3.Idx → Elt Ideal .f32) (M Q : FVec Ideal S3x24x12x128 .f32) (ck : Fin 24) (w : Fin 12) (ml ql : FVec Ideal S1x128 .f32) (l : Fin 128) :
    rstdAt C M Q ck.val w.val ck.isLt w.isLt ml ql (ix2 0 l) = (peersAt C M Q ck w l).rstd (ml (ix2 0 l)) (ql (ix2 0 l)) := by
  have e0 := statOf_eq M 0 ck w l
  have e1 := statOf_eq M 1 ck w l
  have e2 := statOf_eq M 2 ck w l
  have f0 := statOf_eq Q 0 ck w l
  have f1 := statOf_eq Q 1 ck w l
  have f2 := statOf_eq Q 2 ck w l
  unfold Peers.rstd Peers.nAll Peers.m2 Peers.q012 Peers.q01 Peers.m012 Peers.m01 Peers.n012 Peers.n01 peersAt
  dsimp only
  rw [← e0, ← e1, ← e2, ← f0, ← f1, ← f2, ← cntOf_eq C 0, ← cntOf_eq C 1, ← cntOf_eq C 2]
  rfl

end K01
-- ==== Proof.KTok.lean ====
/-
  The kernel's contents at an index are the values of the token and feature the index stands for.
-/
module

public import proofs.«01_k».proof.Proof.KVal

@[expose] public section

noncomputable section

namespace K01

open Idealize.ShloMosaic

section Parts
variable {α : Type}

theorem rowsOf_apply (X : S256x4608.Idx → α) (i : Fin 256) (j : Fin 36) (k : Fin 128) :
    rowsOf X (32 * (i.val / 32)) j.val (grp_le i.isLt) j.isLt (ix2 (inGrp i.val) k) = X (ix2 i (In.at36 j k)) := by
  refine congrArg X ?_
  funext a
  fin_cases a
  · exact Fin.ext (by show 32 * (i.val / 32) + 1 * (i.val % 32) = i.val; omega)
  · exact Fin.ext (by show 128 * j.val + 1 * k.val = 128 * j.val + k.val; omega)

theorem grpOf_apply (X : S256x128.Idx → α) (i : Fin 256) (k : Fin 128) :
    grpOf X (32 * (i.val / 32)) (grp_le i.isLt) (ix2 (inGrp i.val) k) = X (ix2 i k) := by
  refine congrArg X ?_
  funext a
  fin_cases a
  · exact Fin.ext (by show 32 * (i.val / 32) + 1 * (i.val % 32) = i.val; omega)
  · exact Fin.ext (by show 0 + 1 * k.val = k.val; omega)

theorem vecOf_apply (X : S1x4608.Idx → α) (j : Fin 36) (k : Fin 128) : vecOf X j.val j.isLt (ix2 0 k) = X (ix2 0 (In.at36 j k)) := by
  refine congrArg X ?_
  funext a
  fin_cases a
  · rfl
  · exact Fin.ext (by show 128 * j.val + 1 * k.val = 128 * j.val + k.val; omega)

theorem tileOf_apply (X : S256x128.Idx → α) (r0 : Nat) (hr : r0 ≤ 128) (i k : Fin 128) : tileOf X r0 hr (ix2 i k) = X (ix2 ⟨r0 + i.val, by omega⟩ k) := by
  refine congrArg X ?_
  funext a
  fin_cases a
  · exact Fin.ext (by show r0 + 1 * i.val = r0 + i.val; omega)
  · exact Fin.ext (by show 0 + 1 * k.val = k.val; omega)

theorem chunkOf_apply (X : S3x12x3072.Idx → α) (p : Fin 3) (ck : Fin 24) (w : Fin 12) (l : Fin 128) :
    chunkOf X ck.val ck.isLt (ix3 p w l) = X (ix3 p w ⟨128 * ck.val + l.val, by omega⟩) := by
  refine congrArg X ?_
  funext a
  fin_cases a
  · exact Fin.ext (by show 0 + 1 * p.val = p.val; omega)
  · exact Fin.ext (by show 0 + 1 * w.val = w.val; omega)
  · exact Fin.ext (by show 128 * ck.val + 1 * l.val = 128 * ck.val + l.val; omega)

theorem planeOf_apply (X : S24x12x128.Idx → α) (ck : Fin 24) (w : Fin 12) (l : Fin 128) :
    planeOf X ck.val ck.isLt (ix3 0 w l) = X (ix3 ck w l) := by
  refine congrArg X ?_
  funext a
  fin_cases a
  · exact Fin.ext (by show ck.val + 1 * 0 = ck.val; omega)
  · exact Fin.ext (by show 0 + 1 * w.val = w.val; omega)
  · exact Fin.ext (by show 0 + 1 * l.val = l.val; omega)

end Parts

/-- The grid point a token is computed at, and its row there. -/
def pN (a : Fin 12) (s : Fin 3072) : Nat := 12 * a.val + s.val / 256
theorem pN_lt (a : Fin 12) (s : Fin 3072) : pN a s < 144 := by unfold pN; omega
def pI (s : Fin 3072) : Fin 256 := ⟨s.val % 256, by omega⟩

/-- The token of a grid point's row. -/
def tA (n : Nat) (hn : n < 144) : Fin 12 := ⟨n / 12, by omega⟩
def tS (n : Nat) (i : Fin 256) : Fin 3072 := ⟨n % 12 * 256 + i.val, by omega⟩

theorem pN_t {n : Nat} (hn : n < 144) (i : Fin 256) : pN (tA n hn) (tS n i) = n := by unfold pN tA tS; dsimp only; omega
theorem pI_t (n : Nat) (i : Fin 256) : pI (tS n i) = i := Fin.ext (by unfold pI tS; dsimp only; omega)

namespace Ops

variable (d : Ops Ideal)

/-- The arguments the operands stand for. -/
def inp : In where
  x a s j := d.x (pN a s) (pN_lt a s) (ix2 (pI s) j)
  r a s j := d.r (pN a s) (pN_lt a s) (ix2 (pI s) j)
  P a s := { n := fun p => d.C (ix1 p), m := fun p => d.pm (ix3 p a s), q := fun p => d.p2 (ix3 p a s) }
  g j := d.g (ix2 0 j)
  b j := d.b (ix2 0 j)

theorem pmT_apply (p : Fin 3) (ck : Fin 24) (w : Fin 12) (l : Fin 128) : d.pmT (ix4 p ck w l) = d.pm (ix3 p w ⟨128 * ck.val + l.val, by omega⟩) :=
  (slabVec_apply _ p w l).trans (chunkOf_apply d.pm p ck w l)
theorem p2T_apply (p : Fin 3) (ck : Fin 24) (w : Fin 12) (l : Fin 128) : d.p2T (ix4 p ck w l) = d.p2 (ix3 p w ⟨128 * ck.val + l.val, by omega⟩) :=
  (slabVec_apply _ p w l).trans (chunkOf_apply d.p2 p ck w l)

theorem peers_eq (ck : Fin 24) (w : Fin 12) (l : Fin 128) : peersAt d.C d.pmT d.p2T ck w l = d.inp.P w ⟨128 * ck.val + l.val, by omega⟩ := by
  unfold peersAt inp
  congr 1
  · funext p; exact d.pmT_apply p ck w l
  · funext p; exact d.p2T_apply p ck w l

variable (n : Nat) (hn : n < 144)

theorem h_row (i : Fin 256) (j : Fin 4608) : d.h n hn (ix2 i j) = d.inp.h (tA n hn) (tS n i) j := by
  have key : ∀ n' (hn' : n' < 144) (i' : Fin 256), n' = n → i' = i → d.h n hn (ix2 i j) = (d.x n' hn' (ix2 i' j) : EReal) + d.r n' hn' (ix2 i' j) := by
    rintro n' hn' i' rfl rfl; rfl
  exact key _ _ _ (pN_t hn i) (pI_t n i)

theorem hf_row (i : Fin 256) (j : Fin 4608) : d.hf n hn (ix2 i j) = d.inp.h (tA n hn) (tS n i) j := d.h_row n hn i j

theorem s1_row (i : Fin 256) (l : Fin 128) : d.s1 n hn (ix2 i l) = mu (d.inp.h (tA n hn) (tS n i)) := by
  have e : d.s1 n hn (ix2 i l) = meanVec (accum (fun j hj => rowsOf (d.hf n hn) (32 * (i.val / 32)) j (grp_le i.isLt) hj) 35 (by decide)) (ix2 (inGrp i.val) l) := rfl
  rw [e, meanVec_apply]
  unfold mu
  refine congrArg (fun z => Ideal.div z NL) ?_
  rw [← sum_blocks, Finset.sum_comm]
  refine Finset.sum_congr rfl fun k _ => ?_
  rw [accum_apply]
  refine Finset.sum_congr rfl fun j _ => ?_
  exact (rowsOf_apply (d.hf n hn) i j k).trans (d.hf_row n hn i _)

theorem s2_row (i : Fin 256) (l : Fin 128) : d.s2 n hn (ix2 i l)
    = ∑ j : Fin 36, (d.inp.h (tA n hn) (tS n i) (In.at36 j l) - mu (d.inp.h (tA n hn) (tS n i))) * (d.inp.h (tA n hn) (tS n i) (In.at36 j l) - mu (d.inp.h (tA n hn) (tS n i))) := by
  have e : d.s2 n hn (ix2 i l) = accum (fun j hj => sqVec (rowsOf (d.hf n hn) (32 * (i.val / 32)) j (grp_le i.isLt) hj) (grpOf (d.s1 n hn) (32 * (i.val / 32)) (grp_le i.isLt))) 35 (by decide) (ix2 (inGrp i.val) l) := rfl
  rw [e, accum_apply]
  refine Finset.sum_congr rfl fun j _ => ?_
  rw [sqVec_apply]
  rw [show rowsOf (d.hf n hn) (32 * (i.val / 32)) j.val (grp_le i.isLt) _ (ix2 (inGrp i.val) l) = d.inp.h (tA n hn) (tS n i) (In.at36 j l) from
    (rowsOf_apply (d.hf n hn) i j l).trans (d.hf_row n hn i _)]
  rw [grpOf_apply, s1_row]

theorem m2_row (r0 : Nat) (hr : r0 ≤ 128) (l : Fin 128) :
    m2Loc (tileOf (d.s2 n hn) r0 hr) (ix2 0 l) = dev (d.inp.h (tA n hn) (tS n ⟨r0 + l.val, by omega⟩)) := by
  rw [m2Loc_apply]
  unfold dev
  rw [← sum_blocks, Finset.sum_comm]
  refine Finset.sum_congr rfl fun k _ => ?_
  rw [tileOf_apply, s2_row]
  rfl

theorem mean_row (r0 : Nat) (hr : r0 ≤ 128) (l : Fin 128) :
    meanLoc (tileOf (d.s1 n hn) r0 hr) (ix2 0 l) = mu (d.inp.h (tA n hn) (tS n ⟨r0 + l.val, by omega⟩)) := by
  rw [meanLoc_apply, tileOf_apply, s1_row]

theorem mTile_apply (r0 : Nat) (hr : r0 ≤ 128) (ck : Fin 24) (w : Fin 12) (l : Fin 128) (s : Fin 3072) (hw : w = tA n hn)
    (h1 : s = tS n ⟨r0 + l.val, by omega⟩) (h2 : s.val = 128 * ck.val + l.val) :
    d.mTile n hn r0 hr ck.val w.val ck.isLt w.isLt (ix2 0 l) = d.inp.mean w s := by
  refine (meanAt_apply d.C d.pmT d.p2T ck w _ l).trans ?_
  rw [peers_eq, mean_row, ← hw, ← h1, ← show s = ⟨128 * ck.val + l.val, by omega⟩ from Fin.ext h2]
  rfl
theorem rTile_apply (r0 : Nat) (hr : r0 ≤ 128) (ck : Fin 24) (w : Fin 12) (l : Fin 128) (s : Fin 3072) (hw : w = tA n hn)
    (h1 : s = tS n ⟨r0 + l.val, by omega⟩) (h2 : s.val = 128 * ck.val + l.val) :
    d.rTile n hn r0 hr ck.val w.val ck.isLt w.isLt (ix2 0 l) = d.inp.rstd w s := by
  refine (rstdAt_apply d.C d.pmT d.p2T ck w _ _ l).trans ?_
  rw [peers_eq, mean_row, m2_row, ← hw, ← h1, ← show s = ⟨128 * ck.val + l.val, by omega⟩ from Fin.ext h2]
  rfl

theorem chunk0 (n : Nat) (hn : n < 144) : chunkAt n 0#32 = 2 * (n % 12) := (chunkAt_eq ⟨n, hn⟩ 0).trans (by dsimp only; omega)
theorem chunk1 (n : Nat) (hn : n < 144) : chunkAt n 1#32 = 2 * (n % 12) + 1 := (chunkAt_eq ⟨n, hn⟩ 1).trans (by dsimp only; omega)

theorem mcol_row (i : Fin 256) (l : Fin 128) : d.mcol n hn (ix2 i l) = d.inp.mean (tA n hn) (tS n i) := by
  have hw : (⟨rowAt n, rowAt_lt hn⟩ : Fin 12) = tA n hn := Fin.ext (rowAt_eq ⟨n, hn⟩)
  have c0 := chunk0 n hn
  have c1 := chunk1 n hn
  unfold mcol glueTile
  by_cases h : i.val < 128
  · rw [if_pos (by exact h)]
    refine (colVec_apply _ _ _).trans ?_
    refine (d.mTile_apply n hn 0 _ ⟨_, chunkAt_lt hn 0⟩ ⟨_, rowAt_lt hn⟩ _ (tS n i) hw ?_ ?_).trans (by rw [hw])
    · exact Fin.ext (by show n % 12 * 256 + i.val = n % 12 * 256 + (0 + i.val % 128); omega)
    · show n % 12 * 256 + i.val = 128 * chunkAt n 0#32 + i.val % 128; omega
  · rw [if_neg (by exact h)]
    refine (colVec_apply _ _ _).trans ?_
    refine (d.mTile_apply n hn 128 _ ⟨_, chunkAt_lt hn 1⟩ ⟨_, rowAt_lt hn⟩ _ (tS n i) hw ?_ ?_).trans (by rw [hw])
    · exact Fin.ext (by show n % 12 * 256 + i.val = n % 12 * 256 + (128 + i.val % 128); omega)
    · show n % 12 * 256 + i.val = 128 * chunkAt n 1#32 + i.val % 128; omega

theorem rcol_row (i : Fin 256) (l : Fin 128) : d.rcol n hn (ix2 i l) = d.inp.rstd (tA n hn) (tS n i) := by
  have hw : (⟨rowAt n, rowAt_lt hn⟩ : Fin 12) = tA n hn := Fin.ext (rowAt_eq ⟨n, hn⟩)
  have c0 := chunk0 n hn
  have c1 := chunk1 n hn
  unfold rcol glueTile
  by_cases h : i.val < 128
  · rw [if_pos (by exact h)]
    refine (colVec_apply _ _ _).trans ?_
    refine (d.rTile_apply n hn 0 _ ⟨_, chunkAt_lt hn 0⟩ ⟨_, rowAt_lt hn⟩ _ (tS n i) hw ?_ ?_).trans (by rw [hw])
    · exact Fin.ext (by show n % 12 * 256 + i.val = n % 12 * 256 + (0 + i.val % 128); omega)
    · show n % 12 * 256 + i.val = 128 * chunkAt n 0#32 + i.val % 128; omega
  · rw [if_neg (by exact h)]
    refine (colVec_apply _ _ _).trans ?_
    refine (d.rTile_apply n hn 128 _ ⟨_, chunkAt_lt hn 1⟩ ⟨_, rowAt_lt hn⟩ _ (tS n i) hw ?_ ?_).trans (by rw [hw])
    · exact Fin.ext (by show n % 12 * 256 + i.val = n % 12 * 256 + (128 + i.val % 128); omega)
    · show n % 12 * 256 + i.val = 128 * chunkAt n 1#32 + i.val % 128; omega

theorem tA_pN (a : Fin 12) (s : Fin 3072) (h : 12 * a.val + s.val / 128 / 2 < 144) : a = tA (12 * a.val + s.val / 128 / 2) h :=
  Fin.ext (by unfold tA; dsimp only; omega)

theorem mOut_tok (a : Fin 12) (s : Fin 3072) : d.mOut (ix2 a s) = d.inp.mean a s := by
  refine (planeVec_apply _ _ _).trans ?_
  refine (planeOf_apply d.mT ⟨s.val / 128, by omega⟩ a (inBlk s.val)).trans ?_
  refine (mtVec_apply _ _).trans ?_
  refine d.mTile_apply _ _ _ _ ⟨s.val / 128, by omega⟩ a _ s (tA_pN a s _) ?_ ?_
  · exact Fin.ext (by show s.val = (12 * a.val + s.val / 128 / 2) % 12 * 256 + (128 * (s.val / 128 % 2) + s.val % 128); omega)
  · show s.val = 128 * (s.val / 128) + s.val % 128; omega

theorem rOut_tok (a : Fin 12) (s : Fin 3072) : d.rOut (ix2 a s) = d.inp.rstd a s := by
  refine (planeVec_apply _ _ _).trans ?_
  refine (planeOf_apply d.rT ⟨s.val / 128, by omega⟩ a (inBlk s.val)).trans ?_
  refine (mtVec_apply _ _).trans ?_
  refine d.rTile_apply _ _ _ _ ⟨s.val / 128, by omega⟩ a _ s (tA_pN a s _) ?_ ?_
  · exact Fin.ext (by show s.val = (12 * a.val + s.val / 128 / 2) % 12 * 256 + (128 * (s.val / 128 % 2) + s.val % 128); omega)
  · show s.val = 128 * (s.val / 128) + s.val % 128; omega

theorem y_row (i : Fin 256) (j : Fin 36) (k : Fin 128) :
    d.y n hn (32 * (i.val / 32)) j.val (grp_le i.isLt) j.isLt (ix2 (inGrp i.val) k) = d.inp.y (tA n hn) (tS n i) (In.at36 j k) := by
  refine (yVec_apply _ _ _ _ _ _ _).trans ?_
  rw [rowsOf_apply, grpOf_apply, grpOf_apply, vecOf_apply, vecOf_apply, hf_row, mcol_row, rcol_row]
  rfl

theorem amaxVec_row (i : Fin 256) (j : Fin 36) :
    amaxVec (d.y n hn (32 * (i.val / 32)) j.val (grp_le i.isLt) j.isLt) (ix2 (inGrp i.val) 0) = d.inp.am (tA n hn) (tS n i) j := by
  refine (amaxVec_apply _ _).trans (congrArg amS ?_)
  funext k
  exact d.y_row n hn i j k

theorem amax_row (i : Fin 256) (j : Fin 36) : d.amax n hn (ix2 i ⟨j.val, by omega⟩) = d.inp.am (tA n hn) (tS n i) j := by
  refine Eq.trans ?_ (d.amaxVec_row n hn i j)
  unfold amax glueCol
  rw [dif_pos (by exact j.isLt)]
  rfl

theorem scl_row (i : Fin 256) (j : Fin 36) : d.scl n hn (ix2 i j) = d.inp.scl (tA n hn) (tS n i) j := by
  have e : grpOf (d.amax n hn) (32 * (i.val / 32)) (grp_le i.isLt) (ix2 (inGrp i.val) ⟨j.val, by omega⟩) = d.inp.am (tA n hn) (tS n i) j :=
    (grpOf_apply _ _ _).trans (d.amax_row n hn i j)
  refine (sclVec_apply (grpOf (d.amax n hn) (32 * (i.val / 32)) (grp_le i.isLt)) (inGrp i.val) j ?_).trans (congrArg sclS e)
  rw [e]
  exact amS_nonneg _

theorem codes_row (i : Fin 256) (j : Fin 36) (k : Fin 128) : d.codes n hn (ix2 i (In.at36 j k)) = d.inp.code (tA n hn) (tS n i) (In.at36 j k) := by
  have hj : ((In.at36 j k).val) / 128 = j.val := by show (128 * j.val + k.val) / 128 = j.val; omega
  have hb : In.blkOf (In.at36 j k) = j := Fin.ext hj
  have hk : inBlk (In.at36 j k).val = k := Fin.ext (by show (128 * j.val + k.val) % 128 = k.val; omega)
  have e : d.codes n hn (ix2 i (In.at36 j k)) = codeVec (d.y n hn (32 * (i.val / 32)) j.val (grp_le i.isLt) j.isLt)
      (invVec (amaxVec (d.y n hn (32 * (i.val / 32)) j.val (grp_le i.isLt) j.isLt))) (ix2 (inGrp i.val) k) := by
    have key : ∀ j' (hj' : j' < 36) k', j' = j.val → k' = k →
        codeVec (d.y n hn (32 * (i.val / 32)) j' (grp_le i.isLt) hj') (invVec (amaxVec (d.y n hn (32 * (i.val / 32)) j' (grp_le i.isLt) hj'))) (ix2 (inGrp i.val) k')
        = codeVec (d.y n hn (32 * (i.val / 32)) j.val (grp_le i.isLt) j.isLt) (invVec (amaxVec (d.y n hn (32 * (i.val / 32)) j.val (grp_le i.isLt) j.isLt))) (ix2 (inGrp i.val) k) := by
      rintro j' hj' k' rfl rfl; rfl
    exact key _ _ _ hj hk
  have a := d.amaxVec_row n hn i j
  rw [e, codeVec_apply, y_row, invVec_apply _ _ _ (by rw [a]; exact amS_nonneg _), a]
  unfold In.code codeS
  rw [hb]

end Ops

end K01
-- ==== Proof.KIn.lean ====
/-
  The kernel's operands are the arguments, by token and feature.
-/
module

public import proofs.«01_k».proof.Proof.RunIdeal
public import proofs.«01_k».proof.Proof.KTok
public import Idealize.ShloMosaic.Lib.Pipeline.ValueKit

@[expose] public section

set_option maxRecDepth 16384

noncomputable section

namespace Cert.Proof.KVal

open Cert.KernelIdeal Cert.KernelIdeal.Gen Cert.Proof.RunIdeal
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- The blocks the input windows take at a grid point. -/
theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0, 0] := by decide +kernel
theorem idx4 : ∀ t : Fin grid0.N, win0_4.index t = ![0, 0, 0] := by decide +kernel
theorem idx5 : ∀ t : Fin grid0.N, win0_5.index t = ![0, 0] := by decide +kernel
theorem idx6 : ∀ t : Fin grid0.N, win0_6.index t = ![0, 0] := by decide +kernel

/-- The two activations, flattened to rows: row `r`, feature `j` is token `(r / 3072, r % 3072)`, feature `j`. -/
theorem v0_at (r : Fin 36864) (j : Fin 4608) : V m c main_v0 (ix2 r j)
    = m ((c.tc : Thread nD τ).loc main_arg0) (ix3 ⟨r.val / 3072, by omega⟩ ⟨r.val % 3072, by omega⟩ j) := by
  show StableHlo.after hostOps0 (fun b => m (c, b)) (Proc.devRef .tc main_v0) (ix2 r j) = _
  after_results
  pointwise
theorem v1_at (r : Fin 36864) (j : Fin 4608) : V m c main_v1 (ix2 r j)
    = m ((c.tc : Thread nD τ).loc main_arg1) (ix3 ⟨r.val / 3072, by omega⟩ ⟨r.val % 3072, by omega⟩ j) := by
  show StableHlo.after hostOps0 (fun b => m (c, b)) (Proc.devRef .tc main_v1) (ix2 r j) = _
  after_results
  pointwise
theorem v2_at (j : Fin 4608) : V m c main_v2 (ix2 0 j) = m ((c.tc : Thread nD τ).loc main_arg5) (ix1 j) := by
  show StableHlo.after hostOps0 (fun b => m (c, b)) (Proc.devRef .tc main_v2) (ix2 0 j) = _
  after_results
  pointwise
theorem v3_at (j : Fin 4608) : V m c main_v3 (ix2 0 j) = m ((c.tc : Thread nD τ).loc main_arg6) (ix1 j) := by
  show StableHlo.after hostOps0 (fun b => m (c, b)) (Proc.devRef .tc main_v3) (ix2 0 j) = _
  after_results
  pointwise

/-- Row `i` of the block at point `n` is row `256 n + i` of the flattened activation. -/
theorem x_row (n : Nat) (hn : n < 144) (i : Fin 256) (j : Fin 4608) :
    (opsOf m c).x n hn (ix2 i j) = V m c main_v0 (ix2 ⟨256 * n + i.val, by omega⟩ j) := by
  show iblk m c 1 ⟨n, pt_lt n hn⟩ (ix2 i j) = _
  blk_ext [iblk, idx1 ⟨n, pt_lt n hn⟩]
theorem r_row (n : Nat) (hn : n < 144) (i : Fin 256) (j : Fin 4608) :
    (opsOf m c).r n hn (ix2 i j) = V m c main_v1 (ix2 ⟨256 * n + i.val, by omega⟩ j) := by
  show iblk m c 2 ⟨n, pt_lt n hn⟩ (ix2 i j) = _
  blk_ext [iblk, idx2 ⟨n, pt_lt n hn⟩]

/-- Each operand of the kernel, at the token it is read for, is the argument at that token. -/
theorem x_apply (a : Fin 12) (s : Fin 3072) (j : Fin 4608) :
    (opsOf m c).x (K01.pN a s) (K01.pN_lt a s) (ix2 (K01.pI s) j) = m ((c.tc : Thread nD τ).loc main_arg0) (ix3 a s j) := by
  rw [x_row, v0_at]
  congr 1
  refine (ix3_inj _ _ _ _ _ _).mpr ⟨Fin.ext ?_, Fin.ext ?_, rfl⟩ <;> simp only [K01.pN, K01.pI] <;> omega
theorem r_apply (a : Fin 12) (s : Fin 3072) (j : Fin 4608) :
    (opsOf m c).r (K01.pN a s) (K01.pN_lt a s) (ix2 (K01.pI s) j) = m ((c.tc : Thread nD τ).loc main_arg1) (ix3 a s j) := by
  rw [r_row, v1_at]
  congr 1
  refine (ix3_inj _ _ _ _ _ _).mpr ⟨Fin.ext ?_, Fin.ext ?_, rfl⟩ <;> simp only [K01.pN, K01.pI] <;> omega
theorem c_apply (p : Fin 3) : (opsOf m c).C (ix1 p) = m ((c.tc : Thread nD τ).loc main_arg2) (ix1 p) := by
  have e : ∀ t, iblk m c 0 t (ix1 p) = m ((c.tc : Thread nD τ).loc main_arg2) (ix1 p) := fun t => by blk_ext [iblk, idx0 t]
  exact e ⟨0, pt_lt 0 (by decide)⟩
theorem pm_apply (p : Fin 3) (a : Fin 12) (s : Fin 3072) :
    (opsOf m c).pm (ix3 p a s) = m ((c.tc : Thread nD τ).loc main_arg3) (ix3 p a s) := by
  have e : ∀ t, iblk m c 3 t (ix3 p a s) = m ((c.tc : Thread nD τ).loc main_arg3) (ix3 p a s) := fun t => by blk_ext [iblk, idx3 t]
  exact e ⟨0, pt_lt 0 (by decide)⟩
theorem p2_apply (p : Fin 3) (a : Fin 12) (s : Fin 3072) :
    (opsOf m c).p2 (ix3 p a s) = m ((c.tc : Thread nD τ).loc main_arg4) (ix3 p a s) := by
  have e : ∀ t, iblk m c 4 t (ix3 p a s) = m ((c.tc : Thread nD τ).loc main_arg4) (ix3 p a s) := fun t => by blk_ext [iblk, idx4 t]
  exact e ⟨0, pt_lt 0 (by decide)⟩
theorem g_apply (j : Fin 4608) : (opsOf m c).g (ix2 0 j) = m ((c.tc : Thread nD τ).loc main_arg5) (ix1 j) := by
  have e : ∀ t, iblk m c 5 t (ix2 0 j) = V m c main_v2 (ix2 0 j) := fun t => by blk_ext [iblk, idx5 t]
  exact (e ⟨0, pt_lt 0 (by decide)⟩).trans (v2_at m c j)
theorem b_apply (j : Fin 4608) : (opsOf m c).b (ix2 0 j) = m ((c.tc : Thread nD τ).loc main_arg6) (ix1 j) := by
  have e : ∀ t, iblk m c 6 t (ix2 0 j) = V m c main_v3 (ix2 0 j) := fun t => by blk_ext [iblk, idx6 t]
  exact (e ⟨0, pt_lt 0 (by decide)⟩).trans (v3_at m c j)

/-- The arguments of one device, by token, peer and feature. -/
def argIn : K01.In where
  x a s j := m ((c.tc : Thread nD τ).loc main_arg0) (ix3 a s j)
  r a s j := m ((c.tc : Thread nD τ).loc main_arg1) (ix3 a s j)
  P a s :=
    { n := fun p => m ((c.tc : Thread nD τ).loc main_arg2) (ix1 p)
      m := fun p => m ((c.tc : Thread nD τ).loc main_arg3) (ix3 p a s)
      q := fun p => m ((c.tc : Thread nD τ).loc main_arg4) (ix3 p a s) }
  g j := m ((c.tc : Thread nD τ).loc main_arg5) (ix1 j)
  b j := m ((c.tc : Thread nD τ).loc main_arg6) (ix1 j)

/-- The values the kernel computes from its operands are those of the arguments. -/
theorem inp_eq : (opsOf m c).inp = argIn m c := by
  unfold K01.Ops.inp argIn
  simp only [x_apply, r_apply, c_apply, pm_apply, p2_apply, g_apply, b_apply]

end Cert.Proof.KVal

end
-- ==== Proof.KArr.lean ====
/-
  The arrays the kernel leaves, and the results reshaped from them, by token and feature.
-/
module

public import proofs.«01_k».proof.Proof.KIn
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Proof.KVal

open Cert.KernelIdeal Cert.KernelIdeal.Gen Cert.Proof.RunIdeal
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- Output windows 7, 8 and 11 take block `t` of the rows at grid point `t`. -/
theorem idx7 : ∀ t : Fin grid0.N, win0_7.index t = ![t.val, 0] := by decide +kernel
theorem idx8 : ∀ t : Fin grid0.N, win0_8.index t = ![t.val, 0] := by decide +kernel
theorem idx11 : ∀ t : Fin grid0.N, win0_11.index t = ![t.val, 0] := by decide +kernel

/-- The token of a row. -/
def rA (r : Fin 36864) : Fin 12 := ⟨r.val / 3072, by omega⟩
def rS (r : Fin 36864) : Fin 3072 := ⟨r.val % 3072, by omega⟩
/-- Row `i` of block `n` is the token the block computes there. -/
theorem rA_blk (n : Nat) (hn : n < 144) (i : Fin 256) (r : Fin 36864) (h : r.val = n * 256 + i.val) : rA r = K01.tA n hn :=
  Fin.ext (by unfold rA K01.tA; dsimp only; omega)
theorem rS_blk (n : Nat) (hn : n < 144) (i : Fin 256) (r : Fin 36864) (h : r.val = n * 256 + i.val) : rS r = K01.tS n i :=
  Fin.ext (by unfold rS K01.tS; dsimp only; omega)

/-- The three row arrays as values of their tokens: the sums, the codes, the scales. -/
def arrH : S36864x4608.Idx → EReal := fun i => (argIn m c).h (rA (i 0)) (rS (i 0)) (i 1)
def arrCode : S36864x4608.Idx → EReal := fun i => (argIn m c).code (rA (i 0)) (rS (i 0)) (i 1)
def arrScl : S36864x36.Idx → EReal := fun i => (argIn m c).scl (rA (i 0)) (rS (i 0)) (i 1)

/-- A feature is its block of 128 and its place in the block. -/
theorem at36_split (j : Fin 4608) : K01.In.at36 ⟨j.val / 128, by omega⟩ ⟨j.val % 128, by omega⟩ = j :=
  Fin.ext (by show 128 * (j.val / 128) + j.val % 128 = j.val; omega)

/-- What a grid point leaves in its code block; below, in its scale block and its block of sums. -/
theorem code_at (n : Nat) (hn : n < 144) (i : Fin 256) (j : Fin 4608) :
    (opsOf m c).codes n hn (ix2 i j) = (argIn m c).code (K01.tA n hn) (K01.tS n i) j := by
  have h := (opsOf m c).codes_row n hn i ⟨j.val / 128, by omega⟩ ⟨j.val % 128, by omega⟩
  rw [at36_split, inp_eq] at h
  exact h

theorem scl_at (n : Nat) (hn : n < 144) (i : Fin 256) (j : Fin 36) :
    (opsOf m c).scl n hn (ix2 i j) = (argIn m c).scl (K01.tA n hn) (K01.tS n i) j :=
  ((opsOf m c).scl_row n hn i j).trans (by rw [inp_eq])
theorem h_at (n : Nat) (hn : n < 144) (i : Fin 256) (j : Fin 4608) :
    (opsOf m c).h n hn (ix2 i j) = (argIn m c).h (K01.tA n hn) (K01.tS n i) j :=
  ((opsOf m c).h_row n hn i j).trans (by rw [inp_eq])

/-- The code array after the run; below, the scales, the sums, and the two statistics. -/
theorem array7 : (dats m 0 c).arrAt 7 cfg0.N = arrCode m c := by
  refine (dats m 0 c).arrAt_eq_of_covers 7 _ (by decide +kernel) fun t hf y => ?_
  blk_simp
  rw [after0_7]
  have e0 : ((win0_7.blk t).view.emb y 0).val = t.val * 256 + (y 0).val := by blk_simp [idx7 t]
  have e1 : (win0_7.blk t).view.emb y 1 = y 1 := Fin.ext (by blk_simp [idx7 t])
  have hy : y = ix2 (n0 := 256) (n1 := 4608) (y 0) (y 1) := eq_ix2 y
  refine (congrArg _ hy).trans ((code_at m c t.val (lt_pt t) (y 0) (y 1)).trans ?_)
  unfold arrCode
  rw [rA_blk t.val (lt_pt t) (y 0) _ e0, rS_blk t.val (lt_pt t) (y 0) _ e0, e1]

theorem array8 : (dats m 0 c).arrAt 8 cfg0.N = arrScl m c := by
  refine (dats m 0 c).arrAt_eq_of_covers 8 _ (by decide +kernel) fun t hf y => ?_
  blk_simp
  rw [after0_8]
  have e0 : ((win0_8.blk t).view.emb y 0).val = t.val * 256 + (y 0).val := by blk_simp [idx8 t]
  have e1 : (win0_8.blk t).view.emb y 1 = y 1 := Fin.ext (by blk_simp [idx8 t])
  have hy : y = ix2 (n0 := 256) (n1 := 36) (y 0) (y 1) := eq_ix2 y
  refine (congrArg _ hy).trans ((scl_at m c t.val (lt_pt t) (y 0) (y 1)).trans ?_)
  unfold arrScl
  rw [rA_blk t.val (lt_pt t) (y 0) _ e0, rS_blk t.val (lt_pt t) (y 0) _ e0, e1]

theorem array11 : (dats m 0 c).arrAt 11 cfg0.N = arrH m c := by
  refine (dats m 0 c).arrAt_eq_of_covers 11 _ (by decide +kernel) fun t hf y => ?_
  blk_simp
  rw [after0_11]
  have e0 : ((win0_11.blk t).view.emb y 0).val = t.val * 256 + (y 0).val := by blk_simp [idx11 t]
  have e1 : (win0_11.blk t).view.emb y 1 = y 1 := Fin.ext (by blk_simp [idx11 t])
  have hy : y = ix2 (n0 := 256) (n1 := 4608) (y 0) (y 1) := eq_ix2 y
  refine (congrArg _ hy).trans ((h_at m c t.val (lt_pt t) (y 0) (y 1)).trans ?_)
  unfold arrH
  rw [rA_blk t.val (lt_pt t) (y 0) _ e0, rS_blk t.val (lt_pt t) (y 0) _ e0, e1]

theorem array9 : (dats m 0 c).arrAt 9 cfg0.N = (opsOf m c).mOut := by
  refine (dats m 0 c).arrAt_eq_of_after_last 9 ⟨143, by decide⟩ (by decide +kernel) _ fun j => ?_
  blk_simp
  exact congrFun (after0_9 m c ⟨143, by decide⟩) _
theorem array10 : (dats m 0 c).arrAt 10 cfg0.N = (opsOf m c).rOut := by
  refine (dats m 0 c).arrAt_eq_of_after_last 10 ⟨143, by decide⟩ (by decide +kernel) _ fun j => ?_
  blk_simp
  exact congrFun (after0_10 m c ⟨143, by decide⟩) _

/-- The statistics arrays hold every token's merged mean and reciprocal deviation. -/
theorem mean_at (a : Fin 12) (s : Fin 3072) : (opsOf m c).mOut (ix2 a s) = (argIn m c).mean a s :=
  ((opsOf m c).mOut_tok a s).trans (by rw [inp_eq])
theorem rstd_at (a : Fin 12) (s : Fin 3072) : (opsOf m c).rOut (ix2 a s) = (argIn m c).rstd a s :=
  ((opsOf m c).rOut_tok a s).trans (by rw [inp_eq])

/-- A row-major array of rows, reshaped to tokens. -/
theorem tok_wide {α : Type} (X : S36864x4608.Idx → α) (h) (a : Fin 12) (s : Fin 3072) (j : Fin 4608) :
    shapeCast S12x3072x4608 X h (ix3 a s j) = X (ix2 ⟨3072 * a.val + s.val, by omega⟩ j) := by
  pointwise
  blk_ext
theorem tok_narrow {α : Type} (X : S36864x36.Idx → α) (h) (a : Fin 12) (s : Fin 3072) (j : Fin 36) :
    shapeCast S12x3072x36 X h (ix3 a s j) = X (ix2 ⟨3072 * a.val + s.val, by omega⟩ j) := by
  pointwise
  blk_ext

/-- Row `3072 a + s` is token `(a, s)`. -/
theorem rA_tok (a : Fin 12) (s : Fin 3072) (h) : rA ⟨3072 * a.val + s.val, h⟩ = a := Fin.ext (by unfold rA; dsimp only; omega)
theorem rS_tok (a : Fin 12) (s : Fin 3072) (h) : rS ⟨3072 * a.val + s.val, h⟩ = s := Fin.ext (by unfold rS; dsimp only; omega)
theorem arr_inj : Function.Injective (Pipeline.arrRef (cfgs 0).spec) := by decide

/-- The codes as returned, at a token and feature; below, the scales and the sums. -/
theorem res5 (a : Fin 12) (s : Fin 3072) (j : Fin 4608) :
    Pipeline.afterTail₀ cfgs (dats m) 0 (V0 m) [hostOps1] c main_v5 (ix3 a s j) = (argIn m c).code a s j := by
  unfold Pipeline.afterTail₀
  show StableHlo.after hostOps1 _ (Proc.devRef .tc main_v5) (ix3 a s j) = _
  after_results
  refine (tok_wide _ _ a s j).trans ?_
  refine (congrFun (Pipeline.withArrays_arr (cfgs 0).spec arr_inj c _ _ 7) _).trans ?_
  refine (congrFun (array7 m c) _).trans ?_
  show (argIn m c).code (rA ⟨3072 * a.val + s.val, _⟩) (rS ⟨3072 * a.val + s.val, _⟩) j = _
  rw [rA_tok, rS_tok]

theorem res6 (a : Fin 12) (s : Fin 3072) (j : Fin 36) :
    Pipeline.afterTail₀ cfgs (dats m) 0 (V0 m) [hostOps1] c main_v6 (ix3 a s j) = (argIn m c).scl a s j := by
  unfold Pipeline.afterTail₀
  show StableHlo.after hostOps1 _ (Proc.devRef .tc main_v6) (ix3 a s j) = _
  after_results
  refine (tok_narrow _ _ a s j).trans ?_
  refine (congrFun (Pipeline.withArrays_arr (cfgs 0).spec arr_inj c _ _ 8) _).trans ?_
  refine (congrFun (array8 m c) _).trans ?_
  show (argIn m c).scl (rA ⟨3072 * a.val + s.val, _⟩) (rS ⟨3072 * a.val + s.val, _⟩) j = _
  rw [rA_tok, rS_tok]

theorem res7 (a : Fin 12) (s : Fin 3072) (j : Fin 4608) :
    Pipeline.afterTail₀ cfgs (dats m) 0 (V0 m) [hostOps1] c main_v7 (ix3 a s j) = (argIn m c).h a s j := by
  unfold Pipeline.afterTail₀
  show StableHlo.after hostOps1 _ (Proc.devRef .tc main_v7) (ix3 a s j) = _
  after_results
  refine (tok_wide _ _ a s j).trans ?_
  refine (congrFun (Pipeline.withArrays_arr (cfgs 0).spec arr_inj c _ _ 11) _).trans ?_
  refine (congrFun (array11 m c) _).trans ?_
  show (argIn m c).h (rA ⟨3072 * a.val + s.val, _⟩) (rS ⟨3072 * a.val + s.val, _⟩) j = _
  rw [rA_tok, rS_tok]

end Cert.Proof.KVal

end
-- ==== Proof.RStage.lean ====
/-
  The reference's results as stages, each a few operations on the stages before it.
-/
module

public import proofs.«01_k».proof.Proof.Math
public import proofs.«01_k».proof.Proof.Gen.ReferenceIdeal.Run
public import Idealize.ShloMosaic.Lib.Pointwise

@[expose] public section

set_option maxRecDepth 16384

noncomputable section

namespace Cert.Proof.Stage

open Cert.ReferenceIdeal Cert.ReferenceIdeal.Gen
open Idealize.ShloMosaic Idealize.ShloMosaic.TcCoe

/-- The reference's arguments. -/
structure Arg (F : FTy → Type) where
  x : FVec F S12x3072x4608 .bf16
  r : FVec F S12x3072x4608 .bf16
  n : FVec F S3 .f32
  m : FVec F S3x12x3072 .f32
  q : FVec F S3x12x3072 .f32
  g : FVec F S4608 .f32
  b : FVec F S4608 .f32

variable {F : FTy → Type} [FloatOps F] (A : Arg F)

namespace Arg

def h : FVec F S12x3072x4608 .bf16 := truncf .bf16 (addf (extf .f32 A.x bitsLt_bf16_f32) (extf .f32 A.r bitsLt_bf16_f32)) bitsLt_bf16_f32
def hf : FVec F S12x3072x4608 .f32 := extf .f32 A.h bitsLt_bf16_f32
def n0 : FVec F S_ .f32 := shapeCast _ (extractStridedSlice S1 ![0] A.n slices_S3_S1_0) shapeCasts_S1_S_
def n1 : FVec F S_ .f32 := shapeCast _ (extractStridedSlice S1 ![1] A.n slices_S3_S1_1) shapeCasts_S1_S_
def n2 : FVec F S_ .f32 := shapeCast _ (extractStridedSlice S1 ![2] A.n slices_S3_S1_2) shapeCasts_S1_S_
def nl : FVec F S_ .f32 := constant S_ .f32 0x45900000#32
def m0 : FVec F S12x3072 .f32 := shapeCast _ (extractStridedSlice S1x12x3072 ![0, 0, 0] A.m slices_S3x12x3072_S1x12x3072_0_0_0) shapeCasts_S1x12x3072_S12x3072
def m1 : FVec F S12x3072 .f32 := shapeCast _ (extractStridedSlice S1x12x3072 ![1, 0, 0] A.m slices_S3x12x3072_S1x12x3072_1_0_0) shapeCasts_S1x12x3072_S12x3072
def m2 : FVec F S12x3072 .f32 := shapeCast _ (extractStridedSlice S1x12x3072 ![2, 0, 0] A.m slices_S3x12x3072_S1x12x3072_2_0_0) shapeCasts_S1x12x3072_S12x3072
def q0 : FVec F S12x3072 .f32 := shapeCast _ (extractStridedSlice S1x12x3072 ![0, 0, 0] A.q slices_S3x12x3072_S1x12x3072_0_0_0) shapeCasts_S1x12x3072_S12x3072
def q1 : FVec F S12x3072 .f32 := shapeCast _ (extractStridedSlice S1x12x3072 ![1, 0, 0] A.q slices_S3x12x3072_S1x12x3072_1_0_0) shapeCasts_S1x12x3072_S12x3072
def q2 : FVec F S12x3072 .f32 := shapeCast _ (extractStridedSlice S1x12x3072 ![2, 0, 0] A.q slices_S3x12x3072_S1x12x3072_2_0_0) shapeCasts_S1x12x3072_S12x3072
def n01 : FVec F S_ .f32 := addf A.n0 A.n1
def n012 : FVec F S_ .f32 := addf A.n01 A.n2
def nAll : FVec F S_ .f32 := addf A.n012 (nl (F := F))

/-- One merge, on whole arrays. -/
def mgM (nb n : FVec F S_ .f32) (m m' : FVec F S12x3072 .f32) : FVec F S12x3072 .f32 :=
  addf m (mulf (subf m' m) (broadcastInDim S12x3072 ![] bcast_S_S12x3072 (Host.divf nb n)))
def mgQ (na nb n : FVec F S_ .f32) (m m' q q' : FVec F S12x3072 .f32) : FVec F S12x3072 .f32 :=
  addf (addf q q') (mulf (mulf (subf m' m) (subf m' m)) (broadcastInDim S12x3072 ![] bcast_S_S12x3072 (Host.divf (mulf na nb) n)))

def m01 : FVec F S12x3072 .f32 := mgM A.n1 A.n01 A.m0 A.m1
def m012 : FVec F S12x3072 .f32 := mgM A.n2 A.n012 A.m01 A.m2
def q01 : FVec F S12x3072 .f32 := mgQ A.n0 A.n1 A.n01 A.m0 A.m1 A.q0 A.q1
def q012 : FVec F S12x3072 .f32 := mgQ A.n01 A.n2 A.n012 A.m01 A.m2 A.q01 A.q2

def mu : FVec F S12x3072 .f32 :=
  Host.divf (Host.reduceAdd A.hf (constant S_ .f32 0x00000000#32) reducesTo_S12x3072x4608_S12x3072_d2 h_S_) (broadcastInDim S12x3072 ![] bcast_S_S12x3072 (nl (F := F)))

/-- A value per token, at every feature. -/
def perTok (v : FVec F S12x3072 .f32) : FVec F S12x3072x4608 .f32 :=
  broadcastInDim S12x3072x4608 ![0, 1, 2] bcast_S12x3072x1_S12x3072x4608_0_1_2 (broadcastInDim S12x3072x1 ![0, 1] bcast_S12x3072_S12x3072x1_0_1 v)
/-- A value per feature, at every token. -/
def perFeat (v : FVec F S4608 .f32) : FVec F S12x3072x4608 .f32 :=
  broadcastInDim S12x3072x4608 ![0, 1, 2] bcast_S1x1x4608_S12x3072x4608_0_1_2 (broadcastInDim S1x1x4608 ![2] bcast_S4608_S1x1x4608_2 v)

def dv : FVec F S12x3072x4608 .f32 := subf A.hf (perTok A.mu)
def dev : FVec F S12x3072 .f32 := Host.reduceAdd (mulf A.dv A.dv) (constant S_ .f32 0x00000000#32) reducesTo_S12x3072x4608_S12x3072_d2 h_S_
def mean : FVec F S12x3072 .f32 := mgM (nl (F := F)) A.nAll A.m012 A.mu
def m2All : FVec F S12x3072 .f32 := mgQ A.n012 (nl (F := F)) A.nAll A.m012 A.mu A.q012 A.dev
def rstd : FVec F S12x3072 .f32 := Host.rsqrt (addf (Host.divf A.m2All (broadcastInDim S12x3072 ![] bcast_S_S12x3072 A.nAll))
  (broadcastInDim S12x3072 ![] bcast_S_S12x3072 (constant S_ .f32 0x3727C5AC#32)))

def y : FVec F S12x3072x4608 .f32 := addf (mulf (mulf (subf A.hf (perTok A.mean)) (perTok A.rstd)) (perFeat A.g)) (perFeat A.b)
def yb : FVec F S12x3072x36x128 .f32 := shapeCast _ A.y shapeCasts_S12x3072x4608_S12x3072x36x128
def am : FVec F S12x3072x36 .f32 := Host.reduce FloatOps.maximumf (Host.absf A.yb) (constant S_ .f32 0xFF800000#32) reducesTo_S12x3072x36x128_S12x3072x36_d3 h_S_
/-- A constant at every block. -/
def perBlk (v : FVec F S_ .f32) : FVec F S12x3072x36 .f32 := broadcastInDim S12x3072x36 ![] bcast_S_S12x3072x36 v
def v : FVec F S12x3072x36 .f32 := mulf A.am (perBlk (constant S_ .f32 0x3B124925#32))
def ex0 : FVec F S12x3072x36 .f32 :=
  minimumf (perBlk (id (constant S_ .f32 0x42F00000#32))) (maximumf (perBlk (id (constant S_ .f32 0xC2FC0000#32)))
    (addf (Host.floor (Host.divf (Host.log A.v) (perBlk (Host.log (constant S_ .f32 0x40000000#32))))) (perBlk (constant S_ .f32 0x3F800000#32))))
def ex : FVec F S12x3072x36 .f32 :=
  select (cmpf .oeq A.v (perBlk (constant S_ .f32 0x00000000#32))) (perBlk (id (constant S_ .f32 0x00000000#32))) A.ex0
def scl : FVec F S12x3072x36 .f32 := Host.powf (perBlk (constant S_ .f32 0x40000000#32)) A.ex
def inv : FVec F S12x3072x36 .f32 := Host.powf (perBlk (constant S_ .f32 0x40000000#32)) (Host.negf A.ex)
def cb : FVec F S12x3072x36x128 .f32 :=
  minimumf (broadcastInDim S12x3072x36x128 ![] bcast_S_S12x3072x36x128 (id (constant S_ .f32 0x43E00000#32)))
    (maximumf (broadcastInDim S12x3072x36x128 ![] bcast_S_S12x3072x36x128 (id (constant S_ .f32 0xC3E00000#32)))
      (mulf A.yb (broadcastInDim S12x3072x36x128 ![0, 1, 2, 3] bcast_S12x3072x36x1_S12x3072x36x128_0_1_2_3
        (broadcastInDim S12x3072x36x1 ![0, 1, 2] bcast_S12x3072x36_S12x3072x36x1_0_1_2 A.inv))))
def code : FVec F S12x3072x4608 .fp8e4m3 := Host.convertf .fp8e4m3 (shapeCast _ A.cb shapeCasts_S12x3072x36x128_S12x3072x4608)

end Arg

/-- The arguments a memory holds. -/
def argOf (m : (ℓ : Loc nD τ sig) → Buf (Elt F) ℓ) (c : Dev nD) : Arg F where
  x := m ((c.tc : Thread nD τ).loc main_arg0)
  r := m ((c.tc : Thread nD τ).loc main_arg1)
  n := m ((c.tc : Thread nD τ).loc main_arg2)
  m := m ((c.tc : Thread nD τ).loc main_arg3)
  q := m ((c.tc : Thread nD τ).loc main_arg4)
  g := m ((c.tc : Thread nD τ).loc main_arg5)
  b := m ((c.tc : Thread nD τ).loc main_arg6)

variable (m : (ℓ : Loc nD τ sig) → Buf (Elt F) ℓ) (c : Dev nD)

theorem out2_eq : Cert.ReferenceIdeal.Value.res_out2 m c = (argOf m c).mean := rfl
theorem out3_eq : Cert.ReferenceIdeal.Value.res_out3 m c = (argOf m c).rstd := rfl
theorem out1_eq : Cert.ReferenceIdeal.Value.res_out1 m c = (argOf m c).scl := rfl
theorem out0_eq : Cert.ReferenceIdeal.Value.res_out0 m c = (argOf m c).code := rfl

end Cert.Proof.Stage
-- ==== Proof.RTok1.lean ====
/-
  The reference's stages at an index are the values of the token and feature the index stands for.
-/
module

public import proofs.«01_k».proof.Proof.RStage
public import proofs.«01_k».proof.Proof.KVal

@[expose] public section

noncomputable section

namespace Cert.Proof.Stage.Arg

open Cert.ReferenceIdeal Cert.ReferenceIdeal.Gen
open Idealize.ShloMosaic

variable (A : Arg Ideal)

/-- The arguments, by token and feature. -/
def inp : K01.In where
  x a s j := A.x (ix3 a s j)
  r a s j := A.r (ix3 a s j)
  P a s := { n := fun p => A.n (ix1 p), m := fun p => A.m (ix3 p a s), q := fun p => A.q (ix3 p a s) }
  g j := A.g (ix1 j)
  b j := A.b (ix1 j)

variable (a : Fin 12) (s : Fin 3072) (j : Fin 4608)

theorem h_tok : A.h (ix3 a s j) = A.inp.h a s j := by
  unfold h; rfl
theorem hf_tok : A.hf (ix3 a s j) = A.inp.h a s j := by
  unfold hf; exact A.h_tok a s j

theorem n0_at : A.n0 ix0 = A.n (ix1 0) := by unfold n0; pointwise
theorem n1_at : A.n1 ix0 = A.n (ix1 1) := by unfold n1; pointwise
theorem n2_at : A.n2 ix0 = A.n (ix1 2) := by unfold n2; pointwise
theorem m0_at : A.m0 (ix2 a s) = A.m (ix3 0 a s) := by unfold m0; pointwise
theorem m1_at : A.m1 (ix2 a s) = A.m (ix3 1 a s) := by unfold m1; pointwise
theorem m2_at : A.m2 (ix2 a s) = A.m (ix3 2 a s) := by unfold m2; pointwise
theorem q0_at : A.q0 (ix2 a s) = A.q (ix3 0 a s) := by unfold q0; pointwise
theorem q1_at : A.q1 (ix2 a s) = A.q (ix3 1 a s) := by unfold q1; pointwise
theorem q2_at : A.q2 (ix2 a s) = A.q (ix3 2 a s) := by unfold q2; pointwise

theorem n01_at : A.n01 ix0 = (A.inp.P a s).n01 := by
  unfold n01; rw [addf_apply, n0_at, n1_at]; rfl
theorem n012_at : A.n012 ix0 = (A.inp.P a s).n012 := by
  unfold n012; rw [addf_apply, A.n01_at a s, n2_at]; rfl
theorem nAll_at : A.nAll ix0 = (A.inp.P a s).nAll := by
  unfold nAll; rw [addf_apply, A.n012_at a s]; rfl

theorem mgM_at (na nb n : FVec Ideal S_ .f32) (m m' : FVec Ideal S12x3072 .f32) (h : n ix0 = (na ix0 + nb ix0 : EReal)) :
    mgM nb n m m' (ix2 a s) = K01.mgM (na ix0) (nb ix0) (m (ix2 a s)) (m' (ix2 a s)) := by
  unfold mgM K01.mgM
  rw [← h]
  pointwise
theorem mgQ_at (na nb n : FVec Ideal S_ .f32) (m m' q q' : FVec Ideal S12x3072 .f32) (h : n ix0 = (na ix0 + nb ix0 : EReal)) :
    mgQ na nb n m m' q q' (ix2 a s) = K01.mgQ (na ix0) (nb ix0) (m (ix2 a s)) (m' (ix2 a s)) (q (ix2 a s)) (q' (ix2 a s)) := by
  unfold mgQ K01.mgQ
  rw [← h]
  pointwise

theorem m01_at : A.m01 (ix2 a s) = (A.inp.P a s).m01 := by
  unfold m01
  rw [mgM_at a s A.n0 A.n1 A.n01 A.m0 A.m1 rfl, n0_at, n1_at, m0_at, m1_at]; rfl
theorem m012_at : A.m012 (ix2 a s) = (A.inp.P a s).m012 := by
  unfold m012
  rw [mgM_at a s A.n01 A.n2 A.n012 A.m01 A.m2 rfl, A.n01_at a s, n2_at, m01_at, m2_at]; rfl
theorem q01_at : A.q01 (ix2 a s) = (A.inp.P a s).q01 := by
  unfold q01
  rw [mgQ_at a s A.n0 A.n1 A.n01 A.m0 A.m1 A.q0 A.q1 rfl, n0_at, n1_at, m0_at, m1_at, q0_at, q1_at]; rfl
theorem q012_at : A.q012 (ix2 a s) = (A.inp.P a s).q012 := by
  unfold q012
  rw [mgQ_at a s A.n01 A.n2 A.n012 A.m01 A.m2 A.q01 A.q2 rfl, A.n01_at a s, n2_at, m01_at, m2_at, q01_at, q2_at]; rfl

end Cert.Proof.Stage.Arg
-- ==== Proof.RTok2.lean ====
/-
  The reference's stages at an index are the values of the token and feature the index stands for.
-/
module

public import proofs.«01_k».proof.Proof.RTok1
public import proofs.«01_k».proof.Proof.KVal

@[expose] public section

noncomputable section

namespace Cert.Proof.Stage.Arg

open Cert.ReferenceIdeal Cert.ReferenceIdeal.Gen
open Idealize.ShloMosaic

variable (A : Arg Ideal)

variable (a : Fin 12) (s : Fin 3072) (j : Fin 4608)

theorem mu_tok : A.mu (ix2 a s) = K01.mu (A.inp.h a s) := by
  unfold mu nl K01.mu K01.NL
  pointwise
  simp only [hf_tok]

theorem perTok_at (v : FVec Ideal S12x3072 .f32) : perTok v (ix3 a s j) = v (ix2 a s) := by unfold perTok; pointwise
theorem perFeat_at (v : FVec Ideal S4608 .f32) : perFeat v (ix3 a s j) = v (ix1 j) := by unfold perFeat; pointwise

theorem dv_tok : A.dv (ix3 a s j) = (A.inp.h a s j - K01.mu (A.inp.h a s) : EReal) := by
  unfold dv; rw [subf_apply, hf_tok, perTok_at, mu_tok]; rfl

theorem dev_tok : A.dev (ix2 a s) = K01.dev (A.inp.h a s) := by
  unfold dev K01.dev
  pointwise
  simp only [dv_tok]

theorem mean_tok : A.mean (ix2 a s) = A.inp.mean a s := by
  unfold mean
  rw [mgM_at a s A.n012 nl A.nAll A.m012 A.mu rfl, A.n012_at a s, m012_at, mu_tok]; rfl
theorem m2All_tok : A.m2All (ix2 a s) = (A.inp.P a s).m2 (K01.mu (A.inp.h a s)) (K01.dev (A.inp.h a s)) := by
  unfold m2All
  rw [mgQ_at a s A.n012 nl A.nAll A.m012 A.mu A.q012 A.dev rfl, A.n012_at a s, m012_at, mu_tok, q012_at, dev_tok]; rfl
theorem rstd_tok : A.rstd (ix2 a s) = A.inp.rstd a s := by
  unfold rstd K01.In.rstd K01.Peers.rstd
  rw [← m2All_tok, ← nAll_at]
  pointwise

theorem y_tok : A.y (ix3 a s j) = A.inp.y a s j := by
  unfold y K01.In.y K01.yS
  rw [← hf_tok, ← mean_tok, ← rstd_tok]
  pointwise [perTok, perFeat, inp]

theorem yb_tok (t : Fin 36) (k : Fin 128) : A.yb (ix4 a s t k) = A.inp.y a s (K01.In.at36 t k) := by
  rw [← y_tok]
  unfold yb
  pointwise
  refine congrArg (fun z => A.y (ix3 a s z)) (Fin.ext ?_)
  show t.val * 128 + k.val = 128 * t.val + k.val
  omega

end Cert.Proof.Stage.Arg
-- ==== Proof.RTok3.lean ====
/-
  The reference's stages at an index are the values of the token and feature the index stands for.
-/
module

public import proofs.«01_k».proof.Proof.RTok2
public import proofs.«01_k».proof.Proof.KVal

@[expose] public section

noncomputable section

namespace Cert.Proof.Stage.Arg

open Cert.ReferenceIdeal Cert.ReferenceIdeal.Gen
open Idealize.ShloMosaic

variable (A : Arg Ideal)

variable (a : Fin 12) (s : Fin 3072) (j : Fin 4608)

/-! Operations on whole arrays, at an index. -/

section
variable {sh : Shape} (p q : FVec Ideal sh .f32) (i : sh.Idx)
theorem powf_at : Host.powf p q i = Ideal.pow (p i) (q i) := rfl
theorem negf_at : Host.negf p i = -(p i : EReal) := rfl
theorem floor_at : Host.floor p i = Ideal.liftRound Int.floor (p i) := rfl
theorem log_at : Host.log p i = Ideal.log (p i) := rfl
theorem hdivf_at : Host.divf p q i = Ideal.div (p i) (q i) := rfl
theorem const_at (w : BitVec 32) : (constant sh .f32 w : FVec Ideal sh .f32) i = Ideal.ofBits .f32 w := rfl
theorem oeq_at : cmpf .oeq p q i = BitVec.ofBool (decide ((p i : EReal) = q i)) := rfl
theorem select_at (c : IVec sh 1) : select c p q i = if c i = 1#1 then p i else q i := rfl
theorem id_at : (id p) i = p i := rfl
end

theorem perBlk_at (w : FVec Ideal S_ .f32) (t : Fin 36) : perBlk w (ix3 a s t) = w ix0 := by
  unfold perBlk broadcastInDim
  exact congrArg w (funext fun x => x.elim0)

theorem am_tok (t : Fin 36) : A.am (ix3 a s t) = A.inp.am a s t := by
  unfold am K01.In.am K01.amS
  pointwise
  simp only [yb_tok]

theorem v_tok (t : Fin 36) : A.v (ix3 a s t) = (A.inp.am a s t * Ideal.ofBits .f32 0x3B124925#32 : EReal) := by
  rw [← am_tok]
  unfold v
  rw [mulf_apply, perBlk_at, const_at]
  rfl

theorem ex0_tok (t : Fin 36) : A.ex0 (ix3 a s t) = (min (Ideal.ofBits .f32 0x42F00000#32) (max (Ideal.ofBits .f32 0xC2FC0000#32)
    (Ideal.liftRound Int.floor (Ideal.div (Ideal.log (A.v (ix3 a s t))) (Ideal.log (Ideal.ofBits .f32 0x40000000#32))) + Ideal.ofBits .f32 0x3F800000#32)) : EReal) := by
  unfold ex0
  rw [minimumf_apply, maximumf_apply, addf_apply, floor_at, hdivf_at, log_at]
  simp only [perBlk_at, id_at, const_at, log_at]
  rfl

theorem word_two : Ideal.ofBits .f32 0x40000000#32 = 2 := by
  have := K01.P_mid (k := 128) (by decide) (by decide)
  refine Eq.trans (show Ideal.ofBits .f32 0x40000000#32 = K01.P 128 from rfl) (this.trans ?_)
  norm_num
  rfl
theorem word_one : Ideal.ofBits .f32 0x3F800000#32 = 1 := by
  have := K01.P_mid (k := 127) (by decide) (by decide)
  refine Eq.trans (show Ideal.ofBits .f32 0x3F800000#32 = K01.P 127 from rfl) (this.trans ?_)
  norm_num
theorem word_zero : Ideal.ofBits .f32 0x00000000#32 = 0 := K01.P_zero
theorem word_120 : Ideal.ofBits .f32 0x42F00000#32 = 120 := by
  have e1 : ((0x42F00000#32).extractLsb' (8 + 23) 1 == 1#1) = false := by decide
  have e2 : ((0x42F00000#32).extractLsb' 23 8).toNat = 133 := by decide
  have e3 : ((0x42F00000#32).extractLsb' 0 23).toNat = 7340032 := by decide
  unfold Ideal.ofBits Ideal.ieee
  simp only [e1, e2, e3]
  rw [if_neg (by decide), if_neg (by decide), if_neg (by decide)]
  refine Eq.trans (congrArg Real.toEReal ?_) (show ((120 : ℝ) : EReal) = 120 from rfl)
  norm_num
theorem word_m126 : Ideal.ofBits .f32 0xC2FC0000#32 = -126 := by
  have e1 : ((0xC2FC0000#32).extractLsb' (8 + 23) 1 == 1#1) = true := by decide
  have e2 : ((0xC2FC0000#32).extractLsb' 23 8).toNat = 133 := by decide
  have e3 : ((0xC2FC0000#32).extractLsb' 0 23).toNat = 8126464 := by decide
  unfold Ideal.ofBits Ideal.ieee
  simp only [e1, e2, e3]
  rw [if_neg (by decide), if_neg (by decide), if_pos trivial]
  refine Eq.trans (congrArg Real.toEReal ?_) (show ((-126 : ℝ) : EReal) = -126 from rfl)
  norm_num

theorem ex_tok (t : Fin 36) : A.ex (ix3 a s t) = K01.exS (A.inp.am a s t) := by
  unfold K01.exS K01.expo
  rw [← v_tok]
  unfold ex
  rw [select_at, oeq_at, perBlk_at, perBlk_at, id_at, const_at, word_zero, ex0_tok, word_two, word_one, word_120, word_m126]
  by_cases h : (A.v (ix3 a s t) : EReal) = 0
  · rw [if_pos h, decide_eq_true h]
    rfl
  · rw [if_neg h, decide_eq_false h]
    rfl

theorem scl_tok (t : Fin 36) : A.scl (ix3 a s t) = A.inp.scl a s t := by
  unfold scl K01.In.scl K01.sclS
  rw [← ex_tok]
  rw [powf_at, perBlk_at, const_at, word_two]

theorem inv_tok (t : Fin 36) : A.inv (ix3 a s t) = Ideal.pow 2 (-(K01.exS (A.inp.am a s t))) := by
  unfold inv
  rw [← ex_tok]
  rw [powf_at, negf_at, perBlk_at, const_at, word_two]

theorem cb_tok (t : Fin 36) (k : Fin 128) : A.cb (ix4 a s t k) = K01.codeS (A.inp.y a s (K01.In.at36 t k)) (A.inp.am a s t) := by
  unfold cb K01.codeS
  rw [← yb_tok, ← inv_tok]
  pointwise
  rfl

theorem code_tok (t : Fin 36) (k : Fin 128) : A.code (ix3 a s (K01.In.at36 t k)) = A.inp.code a s (K01.In.at36 t k) := by
  have hb : K01.In.blkOf (K01.In.at36 t k) = t := Fin.ext (by show (128 * t.val + k.val) / 128 = t.val; omega)
  unfold K01.In.code
  rw [hb, ← cb_tok]
  unfold code
  pointwise
  have e1 : (⟨(K01.In.at36 t k).val / 128, Nat.div_lt_of_lt_mul (K01.In.at36 t k).isLt⟩ : Fin 36) = t := hb
  have e2 : ∀ h, (⟨(K01.In.at36 t k).val % 128, h⟩ : Fin 128) = k := fun h => Fin.ext (by show (128 * t.val + k.val) % 128 = k.val; omega)
  exact congrArg A.cb ((ix4_inj _ _ _ _ _ _ _ _).mpr ⟨rfl, rfl, e1, e2 _⟩)

end Cert.Proof.Stage.Arg
-- ==== Proof.Pair.lean ====
/-
  The kernel's five results and the reference's are the same arrays, and both programs run to them.
-/
module

public import proofs.«01_k».proof.Defs
public import proofs.«01_k».proof.Proof.KArr
public import proofs.«01_k».proof.Proof.RTok3

@[expose] public section

set_option maxRecDepth 16384

noncomputable section

namespace Cert.Proof.Pair

open Idealize.ShloMosaic Idealize.ShloMosaic.TcCoe Idealize.SL.Sem
open Cert.KernelIdeal Cert.KernelIdeal.Gen Cert.Proof.RunIdeal Cert.Proof.KVal
open Cert.Proof.Stage (Arg argOf)

/-! ## The reference's results, at every token -/

section Tok
variable (A : Arg Ideal) (I : K01.In) (h : A.inp = I)
include h

theorem code_all (X : S12x3072x4608.Idx → EReal) (hX : ∀ a s j, X (ix3 a s j) = I.code a s j) : X = A.code := by
  funext i
  obtain ⟨a, s, j, rfl⟩ : ∃ a s j, i = ix3 (n0 := 12) (n1 := 3072) (n2 := 4608) a s j := ⟨_, _, _, eq_ix3 i⟩
  have e := A.code_tok a s ⟨j.val / 128, by omega⟩ ⟨j.val % 128, by omega⟩
  rw [at36_split, h] at e
  exact (hX a s j).trans e.symm
theorem scl_all (X : S12x3072x36.Idx → EReal) (hX : ∀ a s j, X (ix3 a s j) = I.scl a s j) : X = A.scl := by
  funext i
  obtain ⟨a, s, j, rfl⟩ : ∃ a s j, i = ix3 (n0 := 12) (n1 := 3072) (n2 := 36) a s j := ⟨_, _, _, eq_ix3 i⟩
  have e := A.scl_tok a s j
  rw [h] at e
  exact (hX a s j).trans e.symm
theorem h_all (X : S12x3072x4608.Idx → EReal) (hX : ∀ a s j, X (ix3 a s j) = I.h a s j) : X = A.h := by
  funext i
  obtain ⟨a, s, j, rfl⟩ : ∃ a s j, i = ix3 (n0 := 12) (n1 := 3072) (n2 := 4608) a s j := ⟨_, _, _, eq_ix3 i⟩
  have e := A.h_tok a s j
  rw [h] at e
  exact (hX a s j).trans e.symm
theorem mean_all (X : S12x3072.Idx → EReal) (hX : ∀ a s, X (ix2 a s) = I.mean a s) : X = A.mean := by
  funext i
  obtain ⟨a, s, rfl⟩ : ∃ a s, i = ix2 (n0 := 12) (n1 := 3072) a s := ⟨_, _, eq_ix2 i⟩
  have e := A.mean_tok a s
  rw [h] at e
  exact (hX a s).trans e.symm
theorem rstd_all (X : S12x3072.Idx → EReal) (hX : ∀ a s, X (ix2 a s) = I.rstd a s) : X = A.rstd := by
  funext i
  obtain ⟨a, s, rfl⟩ : ∃ a s, i = ix2 (n0 := 12) (n1 := 3072) a s := ⟨_, _, eq_ix2 i⟩
  have e := A.rstd_tok a s
  rw [h] at e
  exact (hX a s).trans e.symm
end Tok

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Equal arguments are the same tokens and features. -/
theorem inp_argOf (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    (argOf m' c).inp = argIn m c := by
  unfold Arg.inp argOf argIn
  dsimp only
  rw [h0, h1, h2, h3, h4, h5, h6]

/-- The kernel runs to the values of the arguments, and leaves the arguments. -/
theorem kernel_run (ρ : Dev nD → PrngReg) (A : Dev nD → Arg Ideal) (hA : ∀ c, (A c).inp = argIn m c) :
    θ_run (defs (F := Ideal)) (onTc (τ := τ) (main (F := Ideal))) ⟨m, fun _ => 0, ρ⟩ (fun r => ∀ c : Dev nD,
      r.2.mem ((c.tc : Thread nD τ).loc main_v5) = (A c).code
      ∧ r.2.mem ((c.tc : Thread nD τ).loc main_v6) = (A c).scl
      ∧ r.2.mem ((c.tc : Thread nD τ).loc main_v4_2) = (A c).mean
      ∧ r.2.mem ((c.tc : Thread nD τ).loc main_v4_3) = (A c).rstd
      ∧ r.2.mem ((c.tc : Thread nD τ).loc main_v7) = (A c).h
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (θ_run_and (run_main m ρ) (unchanged m ρ))
  obtain ⟨hf, hu⟩ := h
  refine ⟨?_, ?_, ?_, ?_, ?_, hu c⟩
  · refine ((hf c).2 main_v5 (Pipeline.mem_restRefs_of _ (by decide) (by decide))).trans ?_
    exact code_all (A c) _ (hA c) _ (res5 m c)
  · refine ((hf c).2 main_v6 (Pipeline.mem_restRefs_of _ (by decide) (by decide))).trans ?_
    exact scl_all (A c) _ (hA c) _ (res6 m c)
  · refine ((hf c).1 9).trans ((array9 m c).trans ?_)
    exact mean_all (A c) _ (hA c) _ (mean_at m c)
  · refine ((hf c).1 10).trans ((array10 m c).trans ?_)
    exact rstd_all (A c) _ (hA c) _ (rstd_at m c)
  · refine ((hf c).2 main_v7 (Pipeline.mem_restRefs_of _ (by decide) (by decide))).trans ?_
    exact h_all (A c) _ (hA c) _ (res7 m c)

theorem v112_eq (c : Dev nD) : Cert.ReferenceIdeal.Value.res_main_v112 m' c = (argOf m' c).code := Stage.out0_eq m' c
theorem v104_eq (c : Dev nD) : Cert.ReferenceIdeal.Value.res_main_v104 m' c = (argOf m' c).scl := Stage.out1_eq m' c
theorem v62_eq (c : Dev nD) : Cert.ReferenceIdeal.Value.res_main_v62 m' c = (argOf m' c).mean := Stage.out2_eq m' c
theorem v74_eq (c : Dev nD) : Cert.ReferenceIdeal.Value.res_main_v74 m' c = (argOf m' c).rstd := Stage.out3_eq m' c

/-- On equal arguments the kernel's five results are the reference's. -/
theorem algebraic : @Cert.algebraic_KernelIdeal_ReferenceIdeal Cert.KernelIdeal.Gen.facts Cert.ReferenceIdeal.Gen.facts := by
  intro m g m' g' _ hagree
  refine ⟨fun c => (argOf m' c).code, fun c => (argOf m' c).scl, fun c => (argOf m' c).mean, fun c => (argOf m' c).rstd, fun c => (argOf m' c).h, ?_, ?_⟩
  · refine kernel_run m g (fun c => argOf m' c) fun c => ?_
    obtain ⟨h0, h1, h2, h3, h4, h5, h6⟩ := hagree c
    exact inp_argOf m m' c h0 h1 h2 h3 h4 h5 h6
  · refine (θ_run _ _ _).mono (fun r h c => ?_) (Cert.ReferenceIdeal.Value.run m' g')
    obtain ⟨e0, e1, e2, e3, e4, hu⟩ := h c
    exact ⟨e0.trans (v112_eq m' c), e1.trans (v104_eq m' c), e2.trans (v62_eq m' c), e3.trans (v74_eq m' c), e4, hu⟩

end Cert.Proof.Pair

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunBits
public import proofs.«01_k».proof.Proof.RunIdeal
public import proofs.«01_k».proof.Proof.Gen.ReferenceIdeal.Run
public import proofs.«01_k».proof.Proof.Pair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- `Kernel` runs, leaves its arguments unchanged, and ends with every counter at zero. -/
theorem quiescent_Kernel : @Cert.quiescent_Kernel Cert.Kernel.Gen.facts := fun m g _ =>
  θ_run_and (RunBits.unchanged m g) ((θ_run _ _ _).mono (fun _ h => h.2) (RunBits.run_main_quiescent m g))

/-- `KernelIdeal` runs, leaves its arguments unchanged, and ends with every counter at zero. -/
theorem quiescent_KernelIdeal : @Cert.quiescent_KernelIdeal Cert.KernelIdeal.Gen.facts := fun m g _ =>
  θ_run_and (RunIdeal.unchanged m g) ((θ_run _ _ _).mono (fun _ h => h.2) (RunIdeal.run_main_quiescent m g))

/-- `ReferenceIdeal` runs, leaves its arguments unchanged, and ends with every counter at zero. -/
theorem quiescent_ReferenceIdeal : @Cert.quiescent_ReferenceIdeal Cert.ReferenceIdeal.Gen.facts := fun m g _ =>
  (θ_run _ _ _).mono (fun r h => ⟨fun c => (h c).2.2.2.2.2, Idealize.ShloMosaic.sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  quiescent_Kernel, quiescent_KernelIdeal, quiescent_ReferenceIdeal, trivial, Pair.algebraic⟩

end Cert.Proof

end
